-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S512x1000x7 : Shape := ⟨3, ![512, 1000, 7]⟩
abbrev S5x280x7 : Shape := ⟨3, ![5, 280, 7]⟩
abbrev S5x140x1x3 : Shape := ⟨4, ![5, 140, 1, 3]⟩
abbrev S5x140 : Shape := ⟨2, ![5, 140]⟩
abbrev S5x65x140 : Shape := ⟨3, ![5, 65, 140]⟩
abbrev S5x140x1 : Shape := ⟨3, ![5, 140, 1]⟩
abbrev S5x140x32 : Shape := ⟨3, ![5, 140, 32]⟩
abbrev S5x7x140 : Shape := ⟨3, ![5, 7, 140]⟩
abbrev S5x7 : Shape := ⟨2, ![5, 7]⟩
abbrev S5x7x7x3 : Shape := ⟨4, ![5, 7, 7, 3]⟩
abbrev S_ : Shape := ⟨0, ![]⟩

class Facts : Prop where
  bcast_S_S512x1000x7 : S_.BroadcastsInDim S512x1000x7 (![] : Fin 0 → Fin S512x1000x7.rank)
  bcast_S_S5x280x7 : S_.BroadcastsInDim S5x280x7 (![] : Fin 0 → Fin S5x280x7.rank)
  bcast_S_S5x140x1x3 : S_.BroadcastsInDim S5x140x1x3 (![] : Fin 0 → Fin S5x140x1x3.rank)
  bcast_S_S5x140 : S_.BroadcastsInDim S5x140 (![] : Fin 0 → Fin S5x140.rank)
  bcast_S_S5x65x140 : S_.BroadcastsInDim S5x65x140 (![] : Fin 0 → Fin S5x65x140.rank)
  bcast_S_S5x140x1 : S_.BroadcastsInDim S5x140x1 (![] : Fin 0 → Fin S5x140x1.rank)
  bcast_S_S5x140x32 : S_.BroadcastsInDim S5x140x32 (![] : Fin 0 → Fin S5x140x32.rank)
  bcast_S_S5x7x140 : S_.BroadcastsInDim S5x7x140 (![] : Fin 0 → Fin S5x7x140.rank)
  bcast_S_S5x7 : S_.BroadcastsInDim S5x7 (![] : Fin 0 → Fin S5x7.rank)

variable [Facts]

def fn_part1 {F : FTy → Type} [FloatOps F] (main_arg6 : FVec F S5x140 .f32) (main_arg7 : FVec F S5x140x32 .f32) (main_arg8 : FVec F S5x140 .f32) (main_arg9 : FVec F S5x7x140 .f32) (main_arg10 : FVec F S5x7 .f32) (main_v0 : IVec S5x140x32 32) (main_v3 : IVec S512x1000x7 1) (main_v6 : IVec S5x280x7 1) (main_v9 : IVec S5x140x1x3 1) (main_v12 : IVec S5x140 1) (main_v15 : IVec S5x65x140 1) (main_v16 : FVec F S5x140x1 .f32) (main_v17 : FVec F S5x140x1 .f32) : IVec S512x1000x7 1 × IVec S5x280x7 1 × IVec S5x140x1x3 1 × IVec S5x140 1 × IVec S5x65x140 1 × IVec S5x140x1 1 × IVec S5x140 1 × IVec S5x140x32 1 × IVec S5x140 1 × IVec S5x7x140 1 × IVec S5x7 1 :=
  let main_v18 : IVec S5x140x1 1 := cmpf .olt main_v16 main_v17
  let main_v19 : FVec F S5x140 .f32 := Host.absf main_arg6
  let main_cst_5 : FVec F S_ .f32 := constant S_ .f32 0x7F800000#32
  let main_v20 : FVec F S5x140 .f32 := broadcastInDim S5x140 ![] bcast_S_S5x140 main_cst_5
  let main_v21 : IVec S5x140 1 := cmpf .olt main_v19 main_v20
  let main_c : IVec S_ 32 := constantI S_ 32 1#32
  let main_v22 : IVec S5x140x32 32 := broadcastInDim S5x140x32 ![] bcast_S_S5x140x32 main_c
  let main_v23 : IVec S5x140x32 32 := addi main_v0 main_v22
  let main_v24 : FVec F S5x140x32 .f32 := sitofp .f32 main_v23
  let main_v25 : FVec F S5x140x32 .f32 := Host.log main_v24
  let main_v26 : IVec S5x140x32 1 := cmpf .oeq main_arg7 main_v25
  let main_v27 : FVec F S5x140 .f32 := Host.absf main_arg8
  let main_cst_6 : FVec F S_ .f32 := constant S_ .f32 0x7F800000#32
  let main_v28 : FVec F S5x140 .f32 := broadcastInDim S5x140 ![] bcast_S_S5x140 main_cst_6
  let main_v29 : IVec S5x140 1 := cmpf .olt main_v27 main_v28
  let main_v30 : FVec F S5x7x140 .f32 := Host.absf main_arg9
  let main_cst_7 : FVec F S_ .f32 := constant S_ .f32 0x7F800000#32
  let main_v31 : FVec F S5x7x140 .f32 := broadcastInDim S5x7x140 ![] bcast_S_S5x7x140 main_cst_7
  let main_v32 : IVec S5x7x140 1 := cmpf .olt main_v30 main_v31
  let main_v33 : FVec F S5x7 .f32 := Host.absf main_arg10
  let main_cst_8 : FVec F S_ .f32 := constant S_ .f32 0x7F800000#32
  let main_v34 : FVec F S5x7 .f32 := broadcastInDim S5x7 ![] bcast_S_S5x7 main_cst_8
  let main_v35 : IVec S5x7 1 := cmpf .olt main_v33 main_v34
  (main_v3, main_v6, main_v9, main_v12, main_v15, main_v18, main_v21, main_v26, main_v29, main_v32, main_v35)

def fn {F : FTy → Type} [FloatOps F] (main_arg0 : FVec F S512x1000x7 .f32) (main_arg1 : FVec F S5x280x7 .f32) (main_arg2 : FVec F S5x140x1x3 .f32) (main_arg3 : FVec F S5x140 .f32) (main_arg4 : FVec F S5x65x140 .f32) (main_arg5 : FVec F S5x140x1 .f32) (main_arg6 : FVec F S5x140 .f32) (main_arg7 : FVec F S5x140x32 .f32) (main_arg8 : FVec F S5x140 .f32) (main_arg9 : FVec F S5x7x140 .f32) (main_arg10 : FVec F S5x7 .f32) (main_arg11 : FVec F S5x7 .f32) (main_arg12 : FVec F S5x7x7x3 .f32) (main_arg13 : FVec F S5x7 .f32) : IVec S512x1000x7 1 × IVec S5x280x7 1 × IVec S5x140x1x3 1 × IVec S5x140 1 × IVec S5x65x140 1 × IVec S5x140x1 1 × IVec S5x140 1 × IVec S5x140x32 1 × IVec S5x140 1 × IVec S5x7x140 1 × IVec S5x7 1 :=
  let main_v0 : IVec S5x140x32 32 := iotaInDim S5x140x32 32 2
  let main_v1 : FVec F S512x1000x7 .f32 := Host.absf main_arg0
  let main_cst : FVec F S_ .f32 := constant S_ .f32 0x7F800000#32
  let main_v2 : FVec F S512x1000x7 .f32 := broadcastInDim S512x1000x7 ![] bcast_S_S512x1000x7 main_cst
  let main_v3 : IVec S512x1000x7 1 := cmpf .olt main_v1 main_v2
  let main_v4 : FVec F S5x280x7 .f32 := Host.absf main_arg1
  let main_cst_0 : FVec F S_ .f32 := constant S_ .f32 0x7F800000#32
  let main_v5 : FVec F S5x280x7 .f32 := broadcastInDim S5x280x7 ![] bcast_S_S5x280x7 main_cst_0
  let main_v6 : IVec S5x280x7 1 := cmpf .olt main_v4 main_v5
  let main_v7 : FVec F S5x140x1x3 .f32 := Host.absf main_arg2
  let main_cst_1 : FVec F S_ .f32 := constant S_ .f32 0x7F800000#32
  let main_v8 : FVec F S5x140x1x3 .f32 := broadcastInDim S5x140x1x3 ![] bcast_S_S5x140x1x3 main_cst_1
  let main_v9 : IVec S5x140x1x3 1 := cmpf .olt main_v7 main_v8
  let main_v10 : FVec F S5x140 .f32 := Host.absf main_arg3
  let main_cst_2 : FVec F S_ .f32 := constant S_ .f32 0x7F800000#32
  let main_v11 : FVec F S5x140 .f32 := broadcastInDim S5x140 ![] bcast_S_S5x140 main_cst_2
  let main_v12 : IVec S5x140 1 := cmpf .olt main_v10 main_v11
  let main_v13 : FVec F S5x65x140 .f32 := Host.absf main_arg4
  let main_cst_3 : FVec F S_ .f32 := constant S_ .f32 0x7F800000#32
  let main_v14 : FVec F S5x65x140 .f32 := broadcastInDim S5x65x140 ![] bcast_S_S5x65x140 main_cst_3
  let main_v15 : IVec S5x65x140 1 := cmpf .olt main_v13 main_v14
  let main_v16 : FVec F S5x140x1 .f32 := Host.absf main_arg5
  let main_cst_4 : FVec F S_ .f32 := constant S_ .f32 0x7F800000#32
  let main_v17 : FVec F S5x140x1 .f32 := broadcastInDim S5x140x1 ![] bcast_S_S5x140x1 main_cst_4
  fn_part1 (F := F) main_arg6 main_arg7 main_arg8 main_arg9 main_arg10 main_v0 main_v3 main_v6 main_v9 main_v12 main_v15 main_v16 main_v17
-- ==== Kernel.lean ====
abbrev S512x1000x7 : Shape := ⟨3, ![512, 1000, 7]⟩
abbrev S5x280x7 : Shape := ⟨3, ![5, 280, 7]⟩
abbrev S5x140x1x3 : Shape := ⟨4, ![5, 140, 1, 3]⟩
abbrev S5x140 : Shape := ⟨2, ![5, 140]⟩
abbrev S5x65x140 : Shape := ⟨3, ![5, 65, 140]⟩
abbrev S5x140x1 : Shape := ⟨3, ![5, 140, 1]⟩
abbrev S5x140x32 : Shape := ⟨3, ![5, 140, 32]⟩
abbrev S5x7x140 : Shape := ⟨3, ![5, 7, 140]⟩
abbrev S5x7 : Shape := ⟨2, ![5, 7]⟩
abbrev S5x7x7x3 : Shape := ⟨4, ![5, 7, 7, 3]⟩
abbrev S512x5x200x7 : Shape := ⟨4, ![512, 5, 200, 7]⟩
abbrev S5x200x512x7 : Shape := ⟨4, ![5, 200, 512, 7]⟩
abbrev S5x140x7 : Shape := ⟨3, ![5, 140, 7]⟩
abbrev S5x140x3 : Shape := ⟨3, ![5, 140, 3]⟩
abbrev S5x3x140 : Shape := ⟨3, ![5, 3, 140]⟩
abbrev S5x1x140 : Shape := ⟨3, ![5, 1, 140]⟩
abbrev S5x32x140 : Shape := ⟨3, ![5, 32, 140]⟩
abbrev S5x140x140 : Shape := ⟨3, ![5, 140, 140]⟩
abbrev S5x200x512x140 : Shape := ⟨4, ![5, 200, 512, 140]⟩
abbrev S5x200x512x32 : Shape := ⟨4, ![5, 200, 512, 32]⟩
abbrev S_ : Shape := ⟨0, ![]⟩
abbrev S5x200x512x160 : Shape := ⟨4, ![5, 200, 512, 160]⟩
abbrev S5x200x160x512 : Shape := ⟨4, ![5, 200, 160, 512]⟩
abbrev S5x200x32x512 : Shape := ⟨4, ![5, 200, 32, 512]⟩
abbrev S5x7x160 : Shape := ⟨3, ![5, 7, 160]⟩
abbrev S5x7x4x40 : Shape := ⟨4, ![5, 7, 4, 40]⟩
abbrev S5x4x7x40 : Shape := ⟨4, ![5, 4, 7, 40]⟩
abbrev S5x200x8x512 : Shape := ⟨4, ![5, 200, 8, 512]⟩
abbrev S5x4x2x8x128 : Shape := ⟨5, ![5, 4, 2, 8, 128]⟩
abbrev S5x4x1x7x128 : Shape := ⟨5, ![5, 4, 1, 7, 128]⟩
abbrev S5x4x7x128 : Shape := ⟨4, ![5, 4, 7, 128]⟩
abbrev S5x200x512x8 : Shape := ⟨4, ![5, 200, 512, 8]⟩
abbrev S5x3x7x7 : Shape := ⟨4, ![5, 3, 7, 7]⟩
abbrev S5x1x7 : Shape := ⟨3, ![5, 1, 7]⟩
abbrev S5x512x200x7 : Shape := ⟨4, ![5, 512, 200, 7]⟩
abbrev S1x200x8x7 : Shape := ⟨4, ![1, 200, 8, 7]⟩
abbrev S1x7x140 : Shape := ⟨3, ![1, 7, 140]⟩
abbrev S1x3x140 : Shape := ⟨3, ![1, 3, 140]⟩
abbrev S1x1x140 : Shape := ⟨3, ![1, 1, 140]⟩
abbrev S1x140x140 : Shape := ⟨3, ![1, 140, 140]⟩
abbrev S1x140x32 : Shape := ⟨3, ![1, 140, 32]⟩
abbrev S1x200x8x140 : Shape := ⟨4, ![1, 200, 8, 140]⟩
abbrev S1x200x8x32 : Shape := ⟨4, ![1, 200, 8, 32]⟩
abbrev S200x8x7 : Shape := ⟨3, ![200, 8, 7]⟩
abbrev S1600x7 : Shape := ⟨2, ![1600, 7]⟩
abbrev S7x140 : Shape := ⟨2, ![7, 140]⟩
abbrev S1600x140 : Shape := ⟨2, ![1600, 140]⟩
abbrev S200x8x140 : Shape := ⟨3, ![200, 8, 140]⟩
abbrev S3x140 : Shape := ⟨2, ![3, 140]⟩
abbrev S1x8x140 : Shape := ⟨3, ![1, 8, 140]⟩
abbrev S199x8x140 : Shape := ⟨3, ![199, 8, 140]⟩
abbrev S198x8x140 : Shape := ⟨3, ![198, 8, 140]⟩
abbrev S1x140 : Shape := ⟨2, ![1, 140]⟩
abbrev S140 : Shape := ⟨1, ![140]⟩
abbrev S140x140 : Shape := ⟨2, ![140, 140]⟩
abbrev S140x32 : Shape := ⟨2, ![140, 32]⟩
abbrev S1600x32 : Shape := ⟨2, ![1600, 32]⟩
abbrev S200x8x32 : Shape := ⟨3, ![200, 8, 32]⟩
abbrev S1x200x40x128 : Shape := ⟨4, ![1, 200, 40, 128]⟩
abbrev S1x200x32x128 : Shape := ⟨4, ![1, 200, 32, 128]⟩
abbrev S1x1x7x40 : Shape := ⟨4, ![1, 1, 7, 40]⟩
abbrev S1x200x8x128 : Shape := ⟨4, ![1, 200, 8, 128]⟩
abbrev S1x1x2x8x128 : Shape := ⟨5, ![1, 1, 2, 8, 128]⟩
abbrev S40x128 : Shape := ⟨2, ![40, 128]⟩
abbrev S1x1x40x128 : Shape := ⟨4, ![1, 1, 40, 128]⟩
abbrev S1x1x32x128 : Shape := ⟨4, ![1, 1, 32, 128]⟩
abbrev S32x128 : Shape := ⟨2, ![32, 128]⟩
abbrev S1x128 : Shape := ⟨2, ![1, 128]⟩
abbrev S128 : Shape := ⟨1, ![128]⟩
abbrev S7x40 : Shape := ⟨2, ![7, 40]⟩
abbrev S7x128 : Shape := ⟨2, ![7, 128]⟩
abbrev S1x1x7x128 : Shape := ⟨4, ![1, 1, 7, 128]⟩
abbrev S200x8x128 : Shape := ⟨3, ![200, 8, 128]⟩
abbrev S8x128 : Shape := ⟨2, ![8, 128]⟩
abbrev S1x1x1x8x128 : Shape := ⟨5, ![1, 1, 1, 8, 128]⟩
abbrev S1x200x64x7 : Shape := ⟨4, ![1, 200, 64, 7]⟩
abbrev S1x1x7 : Shape := ⟨3, ![1, 1, 7]⟩
abbrev S1x3x7x7 : Shape := ⟨4, ![1, 3, 7, 7]⟩
abbrev S200x64x7 : Shape := ⟨3, ![200, 64, 7]⟩
abbrev S1x7 : Shape := ⟨2, ![1, 7]⟩
abbrev S1x64x7 : Shape := ⟨3, ![1, 64, 7]⟩
abbrev S199x64x7 : Shape := ⟨3, ![199, 64, 7]⟩
abbrev S12800x7 : Shape := ⟨2, ![12800, 7]⟩
abbrev S1x1x7x7 : Shape := ⟨4, ![1, 1, 7, 7]⟩
abbrev S7x7 : Shape := ⟨2, ![7, 7]⟩

abbrev nBuf : Space → Nat
  | .hbm => 99
  | .vmem => 62
  | .smem => 0
  | _ => 0

abbrev bufTy : (tb : Table) → Fin (tcTables nBuf tb) → BufTy
  | .hbm, ⟨0, _⟩ => ⟨S512x1000x7, .f32⟩
  | .hbm, ⟨1, _⟩ => ⟨S5x280x7, .f32⟩
  | .hbm, ⟨2, _⟩ => ⟨S5x140x1x3, .f32⟩
  | .hbm, ⟨3, _⟩ => ⟨S5x140, .f32⟩
  | .hbm, ⟨4, _⟩ => ⟨S5x65x140, .f32⟩
  | .hbm, ⟨5, _⟩ => ⟨S5x140x1, .f32⟩
  | .hbm, ⟨6, _⟩ => ⟨S5x140, .f32⟩
  | .hbm, ⟨7, _⟩ => ⟨S5x140x32, .f32⟩
  | .hbm, ⟨8, _⟩ => ⟨S5x140, .f32⟩
  | .hbm, ⟨9, _⟩ => ⟨S5x7x140, .f32⟩
  | .hbm, ⟨10, _⟩ => ⟨S5x7, .f32⟩
  | .hbm, ⟨11, _⟩ => ⟨S5x7, .f32⟩
  | .hbm, ⟨12, _⟩ => ⟨S5x7x7x3, .f32⟩
  | .hbm, ⟨13, _⟩ => ⟨S5x7, .f32⟩
  | .hbm, ⟨14, _⟩ => ⟨S512x5x200x7, .f32⟩
  | .hbm, ⟨15, _⟩ => ⟨S5x200x512x7, .f32⟩
  | .hbm, ⟨16, _⟩ => ⟨S5x140x7, .f32⟩
  | .hbm, ⟨17, _⟩ => ⟨S5x7x140, .f32⟩
  | .hbm, ⟨18, _⟩ => ⟨S5x140x7, .f32⟩
  | .hbm, ⟨19, _⟩ => ⟨S5x7x140, .f32⟩
  | .hbm, ⟨20, _⟩ => ⟨S5x140x3, .f32⟩
  | .hbm, ⟨21, _⟩ => ⟨S5x3x140, .f32⟩
  | .hbm, ⟨22, _⟩ => ⟨S5x1x140, .f32⟩
  | .hbm, ⟨23, _⟩ => ⟨S5x1x140, .f32⟩
  | .hbm, ⟨24, _⟩ => ⟨S5x140, .f32⟩
  | .hbm, ⟨25, _⟩ => ⟨S5x32x140, .f32⟩
  | .hbm, ⟨26, _⟩ => ⟨S5x140x32, .f32⟩
  | .hbm, ⟨27, _⟩ => ⟨S5x32x140, .f32⟩
  | .hbm, ⟨28, _⟩ => ⟨S5x140x32, .f32⟩
  | .hbm, ⟨29, _⟩ => ⟨S5x140x1, .f32⟩
  | .hbm, ⟨30, _⟩ => ⟨S5x140, .f32⟩
  | .hbm, ⟨31, _⟩ => ⟨S5x1x140, .f32⟩
  | .hbm, ⟨32, _⟩ => ⟨S5x140x140, .f32⟩
  | .hbm, ⟨33, _⟩ => ⟨S5x140x140, .f32⟩
  | .hbm, ⟨34, _⟩ => ⟨S5x140x140, .f32⟩
  | .hbm, ⟨35, _⟩ => ⟨S5x1x140, .f32⟩
  | .hbm, ⟨36, _⟩ => ⟨S5x1x140, .f32⟩
  | .hbm, ⟨37, _⟩ => ⟨S5x200x512x140, .f32⟩
  | .hbm, ⟨38, _⟩ => ⟨S5x200x512x140, .f32⟩
  | .hbm, ⟨39, _⟩ => ⟨S5x200x512x140, .f32⟩
  | .hbm, ⟨40, _⟩ => ⟨S5x200x512x140, .f32⟩
  | .hbm, ⟨41, _⟩ => ⟨S5x200x512x32, .f32⟩
  | .hbm, ⟨42, _⟩ => ⟨S5x200x512x32, .f32⟩
  | .hbm, ⟨43, _⟩ => ⟨S_, .i32⟩
  | .hbm, ⟨44, _⟩ => ⟨S_, .f32⟩
  | .hbm, ⟨45, _⟩ => ⟨S5x200x512x160, .f32⟩
  | .hbm, ⟨46, _⟩ => ⟨S5x200x160x512, .f32⟩
  | .hbm, ⟨47, _⟩ => ⟨S_, .i32⟩
  | .hbm, ⟨48, _⟩ => ⟨S_, .f32⟩
  | .hbm, ⟨49, _⟩ => ⟨S5x200x512x160, .f32⟩
  | .hbm, ⟨50, _⟩ => ⟨S5x200x160x512, .f32⟩
  | .hbm, ⟨51, _⟩ => ⟨S_, .i32⟩
  | .hbm, ⟨52, _⟩ => ⟨S_, .f32⟩
  | .hbm, ⟨53, _⟩ => ⟨S5x200x512x160, .f32⟩
  | .hbm, ⟨54, _⟩ => ⟨S5x200x160x512, .f32⟩
  | .hbm, ⟨55, _⟩ => ⟨S_, .i32⟩
  | .hbm, ⟨56, _⟩ => ⟨S_, .f32⟩
  | .hbm, ⟨57, _⟩ => ⟨S5x200x512x160, .f32⟩
  | .hbm, ⟨58, _⟩ => ⟨S5x200x160x512, .f32⟩
  | .hbm, ⟨59, _⟩ => ⟨S5x200x32x512, .f32⟩
  | .hbm, ⟨60, _⟩ => ⟨S5x200x32x512, .f32⟩
  | .hbm, ⟨61, _⟩ => ⟨S_, .i32⟩
  | .hbm, ⟨62, _⟩ => ⟨S_, .f32⟩
  | .hbm, ⟨63, _⟩ => ⟨S5x7x160, .f32⟩
  | .hbm, ⟨64, _⟩ => ⟨S5x7x4x40, .f32⟩
  | .hbm, ⟨65, _⟩ => ⟨S5x4x7x40, .f32⟩
  | .hbm, ⟨66, _⟩ => ⟨S5x200x8x512, .f32⟩
  | .hbm, ⟨67, _⟩ => ⟨S5x4x2x8x128, .f32⟩
  | .hbm, ⟨68, _⟩ => ⟨S5x4x1x7x128, .f32⟩
  | .hbm, ⟨69, _⟩ => ⟨S5x4x7x128, .f32⟩
  | .hbm, ⟨70, _⟩ => ⟨S_, .f32⟩
  | .hbm, ⟨71, _⟩ => ⟨S5x7, .f32⟩
  | .hbm, ⟨72, _⟩ => ⟨S5x4x1x7x128, .f32⟩
  | .hbm, ⟨73, _⟩ => ⟨S5x4x7x128, .f32⟩
  | .hbm, ⟨74, _⟩ => ⟨S_, .f32⟩
  | .hbm, ⟨75, _⟩ => ⟨S5x7, .f32⟩
  | .hbm, ⟨76, _⟩ => ⟨S_, .f32⟩
  | .hbm, ⟨77, _⟩ => ⟨S5x7, .f32⟩
  | .hbm, ⟨78, _⟩ => ⟨S5x7, .f32⟩
  | .hbm, ⟨79, _⟩ => ⟨S_, .f32⟩
  | .hbm, ⟨80, _⟩ => ⟨S5x7, .f32⟩
  | .hbm, ⟨81, _⟩ => ⟨S5x7, .f32⟩
  | .hbm, ⟨82, _⟩ => ⟨S5x7, .f32⟩
  | .hbm, ⟨83, _⟩ => ⟨S5x7, .f32⟩
  | .hbm, ⟨84, _⟩ => ⟨S_, .f32⟩
  | .hbm, ⟨85, _⟩ => ⟨S5x7, .f32⟩
  | .hbm, ⟨86, _⟩ => ⟨S5x7, .f32⟩
  | .hbm, ⟨87, _⟩ => ⟨S5x7, .f32⟩
  | .hbm, ⟨88, _⟩ => ⟨S5x7, .f32⟩
  | .hbm, ⟨89, _⟩ => ⟨S5x7, .f32⟩
  | .hbm, ⟨90, _⟩ => ⟨S5x7, .f32⟩
  | .hbm, ⟨91, _⟩ => ⟨S5x200x512x8, .f32⟩
  | .hbm, ⟨92, _⟩ => ⟨S5x200x512x7, .f32⟩
  | .hbm, ⟨93, _⟩ => ⟨S5x3x7x7, .f32⟩
  | .hbm, ⟨94, _⟩ => ⟨S5x1x7, .f32⟩
  | .hbm, ⟨95, _⟩ => ⟨S5x1x7, .f32⟩
  | .hbm, ⟨96, _⟩ => ⟨S5x1x7, .f32⟩
  | .hbm, ⟨97, _⟩ => ⟨S5x200x512x7, .f32⟩
  | .hbm, ⟨98, _⟩ => ⟨S5x512x200x7, .f32⟩
  | .local _ .vmem, ⟨0, _⟩ => ⟨S1x200x8x7, .f32⟩
  | .local _ .vmem, ⟨1, _⟩ => ⟨S1x200x8x7, .f32⟩
  | .local _ .vmem, ⟨2, _⟩ => ⟨S1x7x140, .f32⟩
  | .local _ .vmem, ⟨3, _⟩ => ⟨S1x7x140, .f32⟩
  | .local _ .vmem, ⟨4, _⟩ => ⟨S1x7x140, .f32⟩
  | .local _ .vmem, ⟨5, _⟩ => ⟨S1x7x140, .f32⟩
  | .local _ .vmem, ⟨6, _⟩ => ⟨S1x3x140, .f32⟩
  | .local _ .vmem, ⟨7, _⟩ => ⟨S1x3x140, .f32⟩
  | .local _ .vmem, ⟨8, _⟩ => ⟨S1x1x140, .f32⟩
  | .local _ .vmem, ⟨9, _⟩ => ⟨S1x1x140, .f32⟩
  | .local _ .vmem, ⟨10, _⟩ => ⟨S1x140x140, .f32⟩
  | .local _ .vmem, ⟨11, _⟩ => ⟨S1x140x140, .f32⟩
  | .local _ .vmem, ⟨12, _⟩ => ⟨S1x1x140, .f32⟩
  | .local _ .vmem, ⟨13, _⟩ => ⟨S1x1x140, .f32⟩
  | .local _ .vmem, ⟨14, _⟩ => ⟨S1x140x32, .f32⟩
  | .local _ .vmem, ⟨15, _⟩ => ⟨S1x140x32, .f32⟩
  | .local _ .vmem, ⟨16, _⟩ => ⟨S1x140x32, .f32⟩
  | .local _ .vmem, ⟨17, _⟩ => ⟨S1x140x32, .f32⟩
  | .local _ .vmem, ⟨18, _⟩ => ⟨S1x1x140, .f32⟩
  | .local _ .vmem, ⟨19, _⟩ => ⟨S1x1x140, .f32⟩
  | .local _ .vmem, ⟨20, _⟩ => ⟨S1x200x8x140, .f32⟩
  | .local _ .vmem, ⟨21, _⟩ => ⟨S1x200x8x140, .f32⟩
  | .local _ .vmem, ⟨22, _⟩ => ⟨S1x200x8x140, .f32⟩
  | .local _ .vmem, ⟨23, _⟩ => ⟨S1x200x8x140, .f32⟩
  | .local _ .vmem, ⟨24, _⟩ => ⟨S1x200x8x140, .f32⟩
  | .local _ .vmem, ⟨25, _⟩ => ⟨S1x200x8x140, .f32⟩
  | .local _ .vmem, ⟨26, _⟩ => ⟨S1x200x8x140, .f32⟩
  | .local _ .vmem, ⟨27, _⟩ => ⟨S1x200x8x140, .f32⟩
  | .local _ .vmem, ⟨28, _⟩ => ⟨S1x200x8x32, .f32⟩
  | .local _ .vmem, ⟨29, _⟩ => ⟨S1x200x8x32, .f32⟩
  | .local _ .vmem, ⟨30, _⟩ => ⟨S1x200x8x32, .f32⟩
  | .local _ .vmem, ⟨31, _⟩ => ⟨S1x200x8x32, .f32⟩
  | .local _ .vmem, ⟨32, _⟩ => ⟨S1x200x40x128, .f32⟩
  | .local _ .vmem, ⟨33, _⟩ => ⟨S1x200x40x128, .f32⟩
  | .local _ .vmem, ⟨34, _⟩ => ⟨S1x200x40x128, .f32⟩
  | .local _ .vmem, ⟨35, _⟩ => ⟨S1x200x40x128, .f32⟩
  | .local _ .vmem, ⟨36, _⟩ => ⟨S1x200x40x128, .f32⟩
  | .local _ .vmem, ⟨37, _⟩ => ⟨S1x200x40x128, .f32⟩
  | .local _ .vmem, ⟨38, _⟩ => ⟨S1x200x40x128, .f32⟩
  | .local _ .vmem, ⟨39, _⟩ => ⟨S1x200x40x128, .f32⟩
  | .local _ .vmem, ⟨40, _⟩ => ⟨S1x200x32x128, .f32⟩
  | .local _ .vmem, ⟨41, _⟩ => ⟨S1x200x32x128, .f32⟩
  | .local _ .vmem, ⟨42, _⟩ => ⟨S1x200x32x128, .f32⟩
  | .local _ .vmem, ⟨43, _⟩ => ⟨S1x200x32x128, .f32⟩
  | .local _ .vmem, ⟨44, _⟩ => ⟨S1x1x7x40, .f32⟩
  | .local _ .vmem, ⟨45, _⟩ => ⟨S1x1x7x40, .f32⟩
  | .local _ .vmem, ⟨46, _⟩ => ⟨S1x200x8x128, .f32⟩
  | .local _ .vmem, ⟨47, _⟩ => ⟨S1x200x8x128, .f32⟩
  | .local _ .vmem, ⟨48, _⟩ => ⟨S1x1x2x8x128, .f32⟩
  | .local _ .vmem, ⟨49, _⟩ => ⟨S1x1x2x8x128, .f32⟩
  | .local _ .vmem, ⟨50, _⟩ => ⟨S1x200x64x7, .f32⟩
  | .local _ .vmem, ⟨51, _⟩ => ⟨S1x200x64x7, .f32⟩
  | .local _ .vmem, ⟨52, _⟩ => ⟨S1x1x7, .f32⟩
  | .local _ .vmem, ⟨53, _⟩ => ⟨S1x1x7, .f32⟩
  | .local _ .vmem, ⟨54, _⟩ => ⟨S1x1x7, .f32⟩
  | .local _ .vmem, ⟨55, _⟩ => ⟨S1x1x7, .f32⟩
  | .local _ .vmem, ⟨56, _⟩ => ⟨S1x3x7x7, .f32⟩
  | .local _ .vmem, ⟨57, _⟩ => ⟨S1x3x7x7, .f32⟩
  | .local _ .vmem, ⟨58, _⟩ => ⟨S1x1x7, .f32⟩
  | .local _ .vmem, ⟨59, _⟩ => ⟨S1x1x7, .f32⟩
  | .local _ .vmem, ⟨60, _⟩ => ⟨S1x200x64x7, .f32⟩
  | .local _ .vmem, ⟨61, _⟩ => ⟨S1x200x64x7, .f32⟩
  | _, _ => ⟨S512x1000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23_0 : Ref sig .tc := ⟨.hbm, 37, rfl⟩
abbrev main_call0_v23_1 : Ref sig .tc := ⟨.hbm, 38, rfl⟩
abbrev main_call0_v23_2 : Ref sig .tc := ⟨.hbm, 39, rfl⟩
abbrev main_call0_v23_3 : Ref sig .tc := ⟨.hbm, 40, rfl⟩
abbrev main_call0_v23_4 : Ref sig .tc := ⟨.hbm, 41, rfl⟩
abbrev main_call0_v23_5 : Ref sig .tc := ⟨.hbm, 42, rfl⟩
abbrev main_call0_c : Ref sig .tc := ⟨.hbm, 43, rfl⟩
abbrev main_call0_call0_v0 : Ref sig .tc := ⟨.hbm, 44, rfl⟩
abbrev main_call0_v24 : Ref sig .tc := ⟨.hbm, 45, rfl⟩
abbrev main_call0_v25 : Ref sig .tc := ⟨.hbm, 46, rfl⟩
abbrev main_call0_c_0 : Ref sig .tc := ⟨.hbm, 47, rfl⟩
abbrev main_call0_call1_v0 : Ref sig .tc := ⟨.hbm, 48, rfl⟩
abbrev main_call0_v26 : Ref sig .tc := ⟨.hbm, 49, rfl⟩
abbrev main_call0_v27 : Ref sig .tc := ⟨.hbm, 50, rfl⟩
abbrev main_call0_c_1 : Ref sig .tc := ⟨.hbm, 51, rfl⟩
abbrev main_call0_call2_v0 : Ref sig .tc := ⟨.hbm, 52, rfl⟩
abbrev main_call0_v28 : Ref sig .tc := ⟨.hbm, 53, rfl⟩
abbrev main_call0_v29 : Ref sig .tc := ⟨.hbm, 54, rfl⟩
abbrev main_call0_c_2 : Ref sig .tc := ⟨.hbm, 55, rfl⟩
abbrev main_call0_call3_v0 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_c_3 : Ref sig .tc := ⟨.hbm, 61, rfl⟩
abbrev main_call0_call4_v0 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37_0 : Ref sig .tc := ⟨.hbm, 66, rfl⟩
abbrev main_call0_v37_1 : Ref sig .tc := ⟨.hbm, 67, rfl⟩
abbrev main_call0_v38 : Ref sig .tc := ⟨.hbm, 68, rfl⟩
abbrev main_call0_v39 : Ref sig .tc := ⟨.hbm, 69, rfl⟩
abbrev main_call0_cst : Ref sig .tc := ⟨.hbm, 70, rfl⟩
abbrev main_call0_v40 : Ref sig .tc := ⟨.hbm, 71, rfl⟩
abbrev main_call0_v41 : Ref sig .tc := ⟨.hbm, 72, rfl⟩
abbrev main_call0_v42 : Ref sig .tc := ⟨.hbm, 73, rfl⟩
abbrev main_call0_cst_4 : Ref sig .tc := ⟨.hbm, 74, rfl⟩
abbrev main_call0_v43 : Ref sig .tc := ⟨.hbm, 75, rfl⟩
abbrev main_call0_cst_5 : Ref sig .tc := ⟨.hbm, 76, rfl⟩
abbrev main_call0_v44 : Ref sig .tc := ⟨.hbm, 77, rfl⟩
abbrev main_call0_v45 : Ref sig .tc := ⟨.hbm, 78, rfl⟩
abbrev main_call0_cst_6 : Ref sig .tc := ⟨.hbm, 79, rfl⟩
abbrev main_call0_v46 : Ref sig .tc := ⟨.hbm, 80, rfl⟩
abbrev main_call0_v47 : Ref sig .tc := ⟨.hbm, 81, rfl⟩
abbrev main_call0_v48 : Ref sig .tc := ⟨.hbm, 82, rfl⟩
abbrev main_call0_v49 : Ref sig .tc := ⟨.hbm, 83, rfl⟩
abbrev main_call0_cst_7 : Ref sig .tc := ⟨.hbm, 84, rfl⟩
abbrev main_call0_v50 : Ref sig .tc := ⟨.hbm, 85, rfl⟩
abbrev main_call0_v51 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_v55 : Ref sig .tc := ⟨.hbm, 90, rfl⟩
abbrev main_call0_v56 : Ref sig .tc := ⟨.hbm, 91, rfl⟩
abbrev main_call0_v57 : Ref sig .tc := ⟨.hbm, 92, rfl⟩
abbrev main_call0_v58 : Ref sig .tc := ⟨.hbm, 93, rfl⟩
abbrev main_call0_v59 : Ref sig .tc := ⟨.hbm, 94, rfl⟩
abbrev main_call0_v60 : Ref sig .tc := ⟨.hbm, 95, rfl⟩
abbrev main_call0_v61 : Ref sig .tc := ⟨.hbm, 96, rfl⟩
abbrev main_call0_v62 : Ref sig .tc := ⟨.hbm, 97, rfl⟩
abbrev main_v0 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg4_1 : Ref sig .tc := ⟨.vmem, 41, rfl⟩
abbrev cc1_stg5_0 : Ref sig .tc := ⟨.vmem, 42, rfl⟩
abbrev cc1_stg5_1 : Ref sig .tc := ⟨.vmem, 43, rfl⟩
abbrev cc1_stg6_0 : Ref sig .tc := ⟨.vmem, 44, rfl⟩
abbrev cc1_stg6_1 : Ref sig .tc := ⟨.vmem, 45, rfl⟩
abbrev cc1_stg7_0 : Ref sig .tc := ⟨.vmem, 46, rfl⟩
abbrev cc1_stg7_1 : Ref sig .tc := ⟨.vmem, 47, rfl⟩
abbrev cc1_stg8_0 : Ref sig .tc := ⟨.vmem, 48, rfl⟩
abbrev cc1_stg8_1 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg1_1 : Ref sig .tc := ⟨.vmem, 53, rfl⟩
abbrev cc2_stg2_0 : Ref sig .tc := ⟨.vmem, 54, rfl⟩
abbrev cc2_stg2_1 : Ref sig .tc := ⟨.vmem, 55, rfl⟩
abbrev cc2_stg3_0 : Ref sig .tc := ⟨.vmem, 56, rfl⟩
abbrev cc2_stg3_1 : Ref sig .tc := ⟨.vmem, 57, rfl⟩
abbrev cc2_stg4_0 : Ref sig .tc := ⟨.vmem, 58, rfl⟩
abbrev cc2_stg4_1 : Ref sig .tc := ⟨.vmem, 59, rfl⟩
abbrev cc2_stg5_0 : Ref sig .tc := ⟨.vmem, 60, rfl⟩
abbrev cc2_stg5_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem6_1 : DmaSem sig := 45
abbrev cc1_sem7_0 : DmaSem sig := 46
abbrev cc1_sem7_1 : DmaSem sig := 47
abbrev cc1_sem8_0 : DmaSem sig := 48
abbrev cc1_sem8_1 : DmaSem sig := 49
abbrev cc2_sem0_0 : DmaSem sig := 50
abbrev cc2_sem0_1 : DmaSem sig := 51
abbrev cc2_sem1_0 : DmaSem sig := 52
abbrev cc2_sem1_1 : DmaSem sig := 53
abbrev cc2_sem2_0 : DmaSem sig := 54
abbrev cc2_sem2_1 : DmaSem sig := 55
abbrev cc2_sem3_0 : DmaSem sig := 56
abbrev cc2_sem3_1 : DmaSem sig := 57
abbrev cc2_sem4_0 : DmaSem sig := 58
abbrev cc2_sem4_1 : DmaSem sig := 59
abbrev cc2_sem5_0 : DmaSem sig := 60
abbrev cc2_sem5_1 : DmaSem sig := 61

abbrev nD : Nat := 1
abbrev τ : Topo := Topo.v7x

variable {F : FTy → Type} [FloatOps F]

abbrev grid0 : Pipeline.Grid := ⟨2, ![5, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x200x8x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7x140 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x7x140 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x140 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x140 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x140x140 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x140 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x140x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x140x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x140 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x200x8x140 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x200x8x140 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x200x8x140 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x200x8x140 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x200x8x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x200x8x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨3, ![5, 4, 4], ![false, false, false]⟩

@[reducible] def k1_t1_loop : Scf.Loop 32 :=
  let c0_i32_32 : BitVec 32 := 0#32
  let c50_i32 : BitVec 32 := 50#32
  let v35 : BitVec 32 := Scalar.addi c0_i32_32 c50_i32
  let c1_i32 : BitVec 32 := 1#32
  ⟨c0_i32_32, v35, c1_i32⟩
def k1_off1 (k1_t1 : Fin k1_t1_loop.trips) (c0_i32_35 : BitVec 32) : Fin 4 → Nat :=
  let c0 : Index := 0#32
  let c0_i32_32 : BitVec 32 := 0#32
  let c1_i32 : BitVec 32 := 1#32
  let arg12 : BitVec 32 := Scf.iv c0_i32_32 c1_i32 k1_t1
  let c4_i32 : BitVec 32 := 4#32
  let v40 : BitVec 32 := Scalar.muli arg12 c4_i32
  let v41 : BitVec 32 := Scalar.addi v40 c0_i32_35
  let v42 : Index := Scalar.indexCast v41
  let c0_36 : Index := 0#32
  let c0_37 : Index := 0#32
  ![0, v42.toNat, 0, 0]
def k1_off2 (k1_t1 : Fin k1_t1_loop.trips) (c0_i32_35 : BitVec 32) : Fin 4 → Nat :=
  let c0_41 : Index := 0#32
  let c0_i32_32 : BitVec 32 := 0#32
  let c1_i32 : BitVec 32 := 1#32
  let arg12 : BitVec 32 := Scf.iv c0_i32_32 c1_i32 k1_t1
  let c4_i32 : BitVec 32 := 4#32
  let v40 : BitVec 32 := Scalar.muli arg12 c4_i32
  let v41 : BitVec 32 := Scalar.addi v40 c0_i32_35
  let v48 : Index := Scalar.indexCast v41
  let c0_42 : Index := 0#32
  let c0_43 : Index := 0#32
  ![0, v48.toNat, 0, 0]
def k1_off3 (k1_t1 : Fin k1_t1_loop.trips) (c0_i32_35 : BitVec 32) : Fin 4 → Nat :=
  let c0_59 : Index := 0#32
  let c0_i32_32 : BitVec 32 := 0#32
  let c1_i32 : BitVec 32 := 1#32
  let arg12 : BitVec 32 := Scf.iv c0_i32_32 c1_i32 k1_t1
  let c4_i32 : BitVec 32 := 4#32
  let v40 : BitVec 32 := Scalar.muli arg12 c4_i32
  let v41 : BitVec 32 := Scalar.addi v40 c0_i32_35
  let v513 : Index := Scalar.indexCast v41
  let c0_60 : Index := 0#32
  let c0_61 : Index := 0#32
  ![0, v513.toNat, 0, 0]
def k1_cond2 (i : grid1.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_34 : BitVec 32 := 0#32
  let v39 : BitVec 1 := Scalar.cmpi .ne v38 c0_i32_34
  v39

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc1_transform_8 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x200x40x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x200x40x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x200x40x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x200x40x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x200x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x200x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x1x7x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x200x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x1x2x8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev grid2 : Pipeline.Grid := ⟨2, ![5, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x200x64x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x3x7x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x7 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x200x64x7 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S512x1000x7 : Shape := ⟨3, ![512, 1000, 7]⟩
abbrev S5x280x7 : Shape := ⟨3, ![5, 280, 7]⟩
abbrev S5x140x1x3 : Shape := ⟨4, ![5, 140, 1, 3]⟩
abbrev S5x140 : Shape := ⟨2, ![5, 140]⟩
abbrev S5x65x140 : Shape := ⟨3, ![5, 65, 140]⟩
abbrev S5x140x1 : Shape := ⟨3, ![5, 140, 1]⟩
abbrev S5x140x32 : Shape := ⟨3, ![5, 140, 32]⟩
abbrev S5x7x140 : Shape := ⟨3, ![5, 7, 140]⟩
abbrev S5x7 : Shape := ⟨2, ![5, 7]⟩
abbrev S5x7x7x3 : Shape := ⟨4, ![5, 7, 7, 3]⟩
abbrev S512x5x200x7 : Shape := ⟨4, ![512, 5, 200, 7]⟩
abbrev S5x512x200x7 : Shape := ⟨4, ![5, 512, 200, 7]⟩
abbrev S5x512x200x280 : Shape := ⟨4, ![5, 512, 200, 280]⟩
abbrev S5x512x200x140 : Shape := ⟨4, ![5, 512, 200, 140]⟩
abbrev S_ : Shape := ⟨0, ![]⟩
abbrev S5x512x202x140 : Shape := ⟨4, ![5, 512, 202, 140]⟩
abbrev S5x140x1x1 : Shape := ⟨4, ![5, 140, 1, 1]⟩
abbrev S5x1x1x140 : Shape := ⟨4, ![5, 1, 1, 140]⟩
abbrev S5x512x200x65 : Shape := ⟨4, ![5, 512, 200, 65]⟩
abbrev S5x512x200x1 : Shape := ⟨4, ![5, 512, 200, 1]⟩
abbrev S5x512x200x32 : Shape := ⟨4, ![5, 512, 200, 32]⟩
abbrev S512x140x32 : Shape := ⟨3, ![512, 140, 32]⟩
abbrev S5x200x512x140 : Shape := ⟨4, ![5, 200, 512, 140]⟩
abbrev S5x200x512x32 : Shape := ⟨4, ![5, 200, 512, 32]⟩
abbrev S5x512x140x32 : Shape := ⟨4, ![5, 512, 140, 32]⟩
abbrev S200x5x512x140 : Shape := ⟨4, ![200, 5, 512, 140]⟩
abbrev S200x5x512x32 : Shape := ⟨4, ![200, 5, 512, 32]⟩
abbrev S1x5x512x140 : Shape := ⟨4, ![1, 5, 512, 140]⟩
abbrev S5x512x140 : Shape := ⟨3, ![5, 512, 140]⟩
abbrev S1x5x512x32 : Shape := ⟨4, ![1, 5, 512, 32]⟩
abbrev S5x512x32 : Shape := ⟨3, ![5, 512, 32]⟩
abbrev S5x512x140x1 : Shape := ⟨4, ![5, 512, 140, 1]⟩
abbrev S5x1x140x32 : Shape := ⟨4, ![5, 1, 140, 32]⟩
abbrev S5x512x1x32 : Shape := ⟨4, ![5, 512, 1, 32]⟩
abbrev S5x1x140 : Shape := ⟨3, ![5, 1, 140]⟩
abbrev S5x512x7x200 : Shape := ⟨4, ![5, 512, 7, 200]⟩
abbrev S5x1x7x1 : Shape := ⟨4, ![5, 1, 7, 1]⟩
abbrev S5x512x7x1 : Shape := ⟨4, ![5, 512, 7, 1]⟩
abbrev S5x512x7x202 : Shape := ⟨4, ![5, 512, 7, 202]⟩
abbrev S5x7x7x1 : Shape := ⟨4, ![5, 7, 7, 1]⟩
abbrev S5x7x7 : Shape := ⟨3, ![5, 7, 7]⟩
abbrev S5x7x512x200 : Shape := ⟨4, ![5, 7, 512, 200]⟩

abbrev nBuf : Space → Nat
  | .hbm => 236
  | .vmem => 0
  | .smem => 0
  | _ => 0

abbrev hbmTy0_0 (i : Nat) : BufTy := match i % 128 with
  | 0 => ⟨S512x1000x7, .f32⟩
  | 1 => ⟨S5x280x7, .f32⟩
  | 2 => ⟨S5x140x1x3, .f32⟩
  | 3 => ⟨S5x140, .f32⟩
  | 4 => ⟨S5x65x140, .f32⟩
  | 5 => ⟨S5x140x1, .f32⟩
  | 6 => ⟨S5x140, .f32⟩
  | 7 => ⟨S5x140x32, .f32⟩
  | 8 => ⟨S5x140, .f32⟩
  | 9 => ⟨S5x7x140, .f32⟩
  | 10 => ⟨S5x7, .f32⟩
  | 11 => ⟨S5x7, .f32⟩
  | 12 => ⟨S5x7x7x3, .f32⟩
  | 13 => ⟨S5x7, .f32⟩
  | 14 => ⟨S512x5x200x7, .f32⟩
  | 15 => ⟨S5x512x200x7, .f32⟩
  | 16 => ⟨S5x512x200x280, .f32⟩
  | 17 => ⟨S5x512x200x140, .f32⟩
  | 18 => ⟨S5x512x200x140, .f32⟩
  | 19 => ⟨S_, .i32⟩
  | 20 => ⟨S_, .f32⟩
  | 21 => ⟨S5x512x202x140, .f32⟩
  | 22 => ⟨S5x512x200x140, .f32⟩
  | 23 => ⟨S5x140x1x1, .f32⟩
  | 24 => ⟨S5x140, .f32⟩
  | 25 => ⟨S5x1x1x140, .f32⟩
  | 26 => ⟨S5x512x200x140, .f32⟩
  | 27 => ⟨S5x512x200x140, .f32⟩
  | 28 => ⟨S_, .f32⟩
  | 29 => ⟨S5x512x200x140, .f32⟩
  | 30 => ⟨S5x512x200x140, .f32⟩
  | 31 => ⟨S5x512x200x140, .f32⟩
  | 32 => ⟨S5x140x1x1, .f32⟩
  | 33 => ⟨S5x140, .f32⟩
  | 34 => ⟨S5x1x1x140, .f32⟩
  | 35 => ⟨S5x512x200x140, .f32⟩
  | 36 => ⟨S5x512x200x140, .f32⟩
  | 37 => ⟨S5x512x200x140, .f32⟩
  | 38 => ⟨S5x512x200x140, .f32⟩
  | 39 => ⟨S5x140x1x1, .f32⟩
  | 40 => ⟨S5x140, .f32⟩
  | 41 => ⟨S5x1x1x140, .f32⟩
  | 42 => ⟨S5x512x200x140, .f32⟩
  | 43 => ⟨S5x512x200x140, .f32⟩
  | 44 => ⟨S5x512x200x140, .f32⟩
  | 45 => ⟨S5x1x1x140, .f32⟩
  | 46 => ⟨S5x512x200x140, .f32⟩
  | 47 => ⟨S5x512x200x140, .f32⟩
  | 48 => ⟨S5x512x200x140, .f32⟩
  | 49 => ⟨S5x512x200x140, .f32⟩
  | 50 => ⟨S_, .f32⟩
  | 51 => ⟨S5x512x200x140, .f32⟩
  | 52 => ⟨S5x512x200x140, .f32⟩
  | 53 => ⟨S_, .f32⟩
  | 54 => ⟨S5x512x200x140, .f32⟩
  | 55 => ⟨S5x512x200x140, .f32⟩
  | 56 => ⟨S5x512x200x140, .f32⟩
  | 57 => ⟨S5x512x200x65, .f32⟩
  | 58 => ⟨S5x512x200x1, .f32⟩
  | 59 => ⟨S5x512x200x32, .f32⟩
  | 60 => ⟨S5x512x200x32, .f32⟩
  | 61 => ⟨S5x512x200x140, .f32⟩
  | 62 => ⟨S5x1x1x140, .f32⟩
  | 63 => ⟨S5x512x200x140, .f32⟩
  | 64 => ⟨S5x512x200x140, .f32⟩
  | 65 => ⟨S_, .f32⟩
  | 66 => ⟨S5x512x200x140, .f32⟩
  | 67 => ⟨S5x512x200x140, .f32⟩
  | 68 => ⟨S5x512x200x140, .f32⟩
  | 69 => ⟨S5x512x200x140, .f32⟩
  | 70 => ⟨S5x512x200x140, .i1⟩
  | 71 => ⟨S5x512x200x140, .f32⟩
  | 72 => ⟨S5x512x200x140, .f32⟩
  | 73 => ⟨S5x512x200x140, .f32⟩
  | 74 => ⟨S5x512x200x140, .f32⟩
  | 75 => ⟨S5x512x200x140, .f32⟩
  | 76 => ⟨S5x512x200x140, .f32⟩
  | 77 => ⟨S5x512x200x140, .f32⟩
  | 78 => ⟨S5x512x200x140, .f32⟩
  | 79 => ⟨S5x140x32, .f32⟩
  | 80 => ⟨S5x140x32, .f32⟩
  | 81 => ⟨S_, .f32⟩
  | 82 => ⟨S512x140x32, .f32⟩
  | 83 => ⟨S5x200x512x140, .f32⟩
  | 84 => ⟨S5x200x512x32, .f32⟩
  | 85 => ⟨S5x200x512x32, .f32⟩
  | 86 => ⟨S5x200x512x140, .f32⟩
  | 87 => ⟨S5x200x512x140, .f32⟩
  | 88 => ⟨S5x512x140x32, .f32⟩
  | 89 => ⟨S200x5x512x140, .f32⟩
  | 90 => ⟨S200x5x512x32, .f32⟩
  | 91 => ⟨S200x5x512x32, .f32⟩
  | 92 => ⟨S200x5x512x140, .f32⟩
  | 93 => ⟨S200x5x512x140, .f32⟩
  | 94 => ⟨S_, .f32⟩
  | 95 => ⟨S200x5x512x140, .f32⟩
  | 96 => ⟨S_, .i32⟩
  | 97 => ⟨S200x5x512x140, .f32⟩
  | 98 => ⟨S200x5x512x32, .f32⟩
  | 99 => ⟨S200x5x512x32, .f32⟩
  | 100 => ⟨S200x5x512x140, .f32⟩
  | 101 => ⟨S200x5x512x140, .f32⟩
  | 102 => ⟨S5x140x32, .f32⟩
  | 103 => ⟨S5x140, .f32⟩
  | 104 => ⟨S_, .i32⟩
  | 105 => ⟨S5x512x140x32, .f32⟩
  | 106 => ⟨S200x5x512x140, .f32⟩
  | 107 => ⟨S_, .i32⟩
  | 108 => ⟨S_, .i1⟩
  | 109 => ⟨S_, .i32⟩
  | 110 => ⟨S_, .i32⟩
  | 111 => ⟨S_, .i32⟩
  | 112 => ⟨S1x5x512x140, .f32⟩
  | 113 => ⟨S5x512x140, .f32⟩
  | 114 => ⟨S_, .i32⟩
  | 115 => ⟨S_, .i32⟩
  | 116 => ⟨S_, .i32⟩
  | 117 => ⟨S1x5x512x32, .f32⟩
  | 118 => ⟨S5x512x32, .f32⟩
  | 119 => ⟨S_, .i32⟩
  | 120 => ⟨S_, .i32⟩
  | 121 => ⟨S_, .i32⟩
  | 122 => ⟨S1x5x512x32, .f32⟩
  | 123 => ⟨S5x512x32, .f32⟩
  | 124 => ⟨S_, .i32⟩
  | 125 => ⟨S_, .i32⟩
  | 126 => ⟨S_, .i32⟩
  | 127 => ⟨S1x5x512x140, .f32⟩
  | _ => ⟨S512x1000x7, .f32⟩

abbrev hbmTy0_1 (i : Nat) : BufTy := match i % 128 with
  | 0 => ⟨S5x512x140, .f32⟩
  | 1 => ⟨S_, .i32⟩
  | 2 => ⟨S_, .i32⟩
  | 3 => ⟨S_, .i32⟩
  | 4 => ⟨S1x5x512x140, .f32⟩
  | 5 => ⟨S5x512x140, .f32⟩
  | 6 => ⟨S5x512x140x1, .f32⟩
  | 7 => ⟨S5x1x140x32, .f32⟩
  | 8 => ⟨S5x512x140x32, .f32⟩
  | 9 => ⟨S5x512x140x32, .f32⟩
  | 10 => ⟨S5x512x140x32, .f32⟩
  | 11 => ⟨S5x512x140x32, .f32⟩
  | 12 => ⟨S5x512x140x32, .f32⟩
  | 13 => ⟨S5x512x140x1, .f32⟩
  | 14 => ⟨S5x512x1x32, .f32⟩
  | 15 => ⟨S5x512x140x32, .f32⟩
  | 16 => ⟨S5x512x140x32, .f32⟩
  | 17 => ⟨S5x512x140x32, .f32⟩
  | 18 => ⟨S5x512x140x1, .f32⟩
  | 19 => ⟨S5x512x140x32, .f32⟩
  | 20 => ⟨S5x512x140x32, .f32⟩
  | 21 => ⟨S5x512x140x32, .f32⟩
  | 22 => ⟨S5x512x140, .f32⟩
  | 23 => ⟨S5x1x140, .f32⟩
  | 24 => ⟨S5x512x140, .f32⟩
  | 25 => ⟨S5x512x140, .f32⟩
  | 26 => ⟨S5x512x140, .f32⟩
  | 27 => ⟨S5x512x140, .f32⟩
  | 28 => ⟨S5x512x140, .f32⟩
  | 29 => ⟨S_, .f32⟩
  | 30 => ⟨S5x512x140, .f32⟩
  | 31 => ⟨S5x512x140, .f32⟩
  | 32 => ⟨S_, .f32⟩
  | 33 => ⟨S5x512x140, .f32⟩
  | 34 => ⟨S5x512x140, .f32⟩
  | 35 => ⟨S5x512x140, .f32⟩
  | 36 => ⟨S5x512x140, .f32⟩
  | 37 => ⟨S1x5x512x140, .f32⟩
  | 38 => ⟨S_, .i32⟩
  | 39 => ⟨S_, .i32⟩
  | 40 => ⟨S_, .i32⟩
  | 41 => ⟨S200x5x512x140, .f32⟩
  | 42 => ⟨S_, .i32⟩
  | 43 => ⟨S_, .i32⟩
  | 44 => ⟨S5x512x200x140, .f32⟩
  | 45 => ⟨S5x512x200x7, .f32⟩
  | 46 => ⟨S5x512x7x200, .f32⟩
  | 47 => ⟨S_, .f32⟩
  | 48 => ⟨S5x7, .f32⟩
  | 49 => ⟨S5x1x7x1, .f32⟩
  | 50 => ⟨S_, .f32⟩
  | 51 => ⟨S5x1x7x1, .f32⟩
  | 52 => ⟨S5x1x7x1, .f32⟩
  | 53 => ⟨S5x512x7x200, .f32⟩
  | 54 => ⟨S5x512x7x200, .f32⟩
  | 55 => ⟨S5x512x7x200, .f32⟩
  | 56 => ⟨S_, .f32⟩
  | 57 => ⟨S5x7, .f32⟩
  | 58 => ⟨S5x1x7x1, .f32⟩
  | 59 => ⟨S_, .f32⟩
  | 60 => ⟨S5x1x7x1, .f32⟩
  | 61 => ⟨S5x1x7x1, .f32⟩
  | 62 => ⟨S5x512x7x200, .f32⟩
  | 63 => ⟨S5x512x7x200, .f32⟩
  | 64 => ⟨S_, .f32⟩
  | 65 => ⟨S5x1x7x1, .f32⟩
  | 66 => ⟨S5x1x7x1, .f32⟩
  | 67 => ⟨S5x1x7x1, .f32⟩
  | 68 => ⟨S5x512x7x200, .f32⟩
  | 69 => ⟨S5x512x7x200, .f32⟩
  | 70 => ⟨S5x1x7x1, .f32⟩
  | 71 => ⟨S5x512x7x200, .f32⟩
  | 72 => ⟨S5x512x7x200, .f32⟩
  | 73 => ⟨S5x1x7x1, .f32⟩
  | 74 => ⟨S5x512x7x200, .f32⟩
  | 75 => ⟨S5x512x7x200, .f32⟩
  | 76 => ⟨S5x512x7x1, .f32⟩
  | 77 => ⟨S5x512x7x1, .f32⟩
  | 78 => ⟨S5x512x7x202, .f32⟩
  | 79 => ⟨S5x512x7x200, .f32⟩
  | 80 => ⟨S5x7x7x1, .f32⟩
  | 81 => ⟨S5x7x7, .f32⟩
  | 82 => ⟨S5x7x512x200, .f32⟩
  | 83 => ⟨S5x512x7x200, .f32⟩
  | 84 => ⟨S_, .f32⟩
  | 85 => ⟨S5x512x7x200, .f32⟩
  | 86 => ⟨S5x512x7x200, .f32⟩
  | 87 => ⟨S5x512x7x200, .f32⟩
  | 88 => ⟨S5x7x7x1, .f32⟩
  | 89 => ⟨S5x7x7, .f32⟩
  | 90 => ⟨S5x7x512x200, .f32⟩
  | 91 => ⟨S5x512x7x200, .f32⟩
  | 92 => ⟨S5x512x7x200, .f32⟩
  | 93 => ⟨S5x512x7x200, .f32⟩
  | 94 => ⟨S5x7x7x1, .f32⟩
  | 95 => ⟨S5x7x7, .f32⟩
  | 96 => ⟨S5x7x512x200, .f32⟩
  | 97 => ⟨S5x512x7x200, .f32⟩
  | 98 => ⟨S5x512x7x200, .f32⟩
  | 99 => ⟨S5x1x7x1, .f32⟩
  | 100 => ⟨S5x512x7x200, .f32⟩
  | 101 => ⟨S5x512x7x200, .f32⟩
  | 102 => ⟨S_, .f32⟩
  | 103 => ⟨S5x512x7x200, .f32⟩
  | 104 => ⟨S5x512x7x200, .i1⟩
  | 105 => ⟨S5x512x7x200, .f32⟩
  | 106 => ⟨S5x512x7x200, .f32⟩
  | 107 => ⟨S5x512x200x7, .f32⟩
  | _ => ⟨S512x1000x7, .f32⟩

abbrev hbmTy (i : Nat) : BufTy := match i / 128 with
  | 0 => hbmTy0_0 i
  | 1 => hbmTy0_1 i
  | _ => ⟨S512x1000x7, .f32⟩

abbrev bufTy : (tb : Table) → Fin (tcTables nBuf tb) → BufTy
  | .hbm, ⟨i, _⟩ => hbmTy i
  | _, _ => ⟨S512x1000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_1 : Ref sig .tc := ⟨.hbm, 94, rfl⟩
abbrev main_v55 : Ref sig .tc := ⟨.hbm, 95, rfl⟩
abbrev main_c_2 : Ref sig .tc := ⟨.hbm, 96, rfl⟩
abbrev main_v56_0 : Ref sig .tc := ⟨.hbm, 97, rfl⟩
abbrev main_v56_1 : Ref sig .tc := ⟨.hbm, 98, rfl⟩
abbrev main_v56_2 : Ref sig .tc := ⟨.hbm, 99, rfl⟩
abbrev main_v56_3 : Ref sig .tc := ⟨.hbm, 100, rfl⟩
abbrev main_v56_4 : Ref sig .tc := ⟨.hbm, 101, rfl⟩
abbrev main_v56_5 : Ref sig .tc := ⟨.hbm, 102, rfl⟩
abbrev main_v56_6 : Ref sig .tc := ⟨.hbm, 103, rfl⟩
abbrev main_v56_7 : Ref sig .tc := ⟨.hbm, 104, rfl⟩
abbrev main_v56_8 : Ref sig .tc := ⟨.hbm, 105, rfl⟩
abbrev main_v56_9 : Ref sig .tc := ⟨.hbm, 106, rfl⟩
abbrev main_while0c_c_19 : Ref sig .tc := ⟨.hbm, 107, rfl⟩
abbrev main_while0c_v114 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_v0 : Ref sig .tc := ⟨.hbm, 112, rfl⟩
abbrev main_while0b_v114 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_v0 : Ref sig .tc := ⟨.hbm, 117, rfl⟩
abbrev main_while0b_v115 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_v0 : Ref sig .tc := ⟨.hbm, 122, rfl⟩
abbrev main_while0b_v116 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_call6_c_1 : Ref sig .tc := ⟨.hbm, 126, rfl⟩
abbrev main_while0b_call6_v0 : Ref sig .tc := ⟨.hbm, 127, rfl⟩
abbrev main_while0b_v117 : Ref sig .tc := ⟨.hbm, 128, rfl⟩
abbrev main_while0b_call7_c : Ref sig .tc := ⟨.hbm, 129, rfl⟩
abbrev main_while0b_call7_c_0 : Ref sig .tc := ⟨.hbm, 130, rfl⟩
abbrev main_while0b_call7_c_1 : Ref sig .tc := ⟨.hbm, 131, rfl⟩
abbrev main_while0b_call7_v0 : Ref sig .tc := ⟨.hbm, 132, rfl⟩
abbrev main_while0b_v118 : Ref sig .tc := ⟨.hbm, 133, rfl⟩
abbrev main_while0b_v119 : Ref sig .tc := ⟨.hbm, 134, rfl⟩
abbrev main_while0b_v120 : Ref sig .tc := ⟨.hbm, 135, rfl⟩
abbrev main_while0b_v121 : Ref sig .tc := ⟨.hbm, 136, rfl⟩
abbrev main_while0b_v122 : Ref sig .tc := ⟨.hbm, 137, rfl⟩
abbrev main_while0b_v123 : Ref sig .tc := ⟨.hbm, 138, rfl⟩
abbrev main_while0b_v124 : Ref sig .tc := ⟨.hbm, 139, rfl⟩
abbrev main_while0b_v125 : Ref sig .tc := ⟨.hbm, 140, rfl⟩
abbrev main_while0b_v126 : Ref sig .tc := ⟨.hbm, 141, rfl⟩
abbrev main_while0b_v127 : Ref sig .tc := ⟨.hbm, 142, rfl⟩
abbrev main_while0b_v128 : Ref sig .tc := ⟨.hbm, 143, rfl⟩
abbrev main_while0b_v129 : Ref sig .tc := ⟨.hbm, 144, rfl⟩
abbrev main_while0b_v130 : Ref sig .tc := ⟨.hbm, 145, rfl⟩
abbrev main_while0b_v131 : Ref sig .tc := ⟨.hbm, 146, rfl⟩
abbrev main_while0b_v132 : Ref sig .tc := ⟨.hbm, 147, rfl⟩
abbrev main_while0b_v133 : Ref sig .tc := ⟨.hbm, 148, rfl⟩
abbrev main_while0b_v134 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_v139 : Ref sig .tc := ⟨.hbm, 154, rfl⟩
abbrev main_while0b_call8_v0 : Ref sig .tc := ⟨.hbm, 155, rfl⟩
abbrev main_while0b_call8_v1 : Ref sig .tc := ⟨.hbm, 156, rfl⟩
abbrev main_while0b_call8_cst : Ref sig .tc := ⟨.hbm, 157, rfl⟩
abbrev main_while0b_call8_v2 : Ref sig .tc := ⟨.hbm, 158, rfl⟩
abbrev main_while0b_call8_v3 : Ref sig .tc := ⟨.hbm, 159, rfl⟩
abbrev main_while0b_call8_cst_0 : Ref sig .tc := ⟨.hbm, 160, rfl⟩
abbrev main_while0b_call8_v4 : Ref sig .tc := ⟨.hbm, 161, rfl⟩
abbrev main_while0b_call8_v5 : Ref sig .tc := ⟨.hbm, 162, rfl⟩
abbrev main_while0b_v140 : Ref sig .tc := ⟨.hbm, 163, rfl⟩
abbrev main_while0b_v141 : Ref sig .tc := ⟨.hbm, 164, rfl⟩
abbrev main_while0b_call9_v0 : Ref sig .tc := ⟨.hbm, 165, rfl⟩
abbrev main_while0b_call9_c : Ref sig .tc := ⟨.hbm, 166, rfl⟩
abbrev main_while0b_call9_c_0 : Ref sig .tc := ⟨.hbm, 167, rfl⟩
abbrev main_while0b_call9_c_1 : Ref sig .tc := ⟨.hbm, 168, rfl⟩
abbrev main_while0b_v142 : Ref sig .tc := ⟨.hbm, 169, rfl⟩
abbrev main_while0b_c_19 : Ref sig .tc := ⟨.hbm, 170, rfl⟩
abbrev main_while0b_v143 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_cst_3 : Ref sig .tc := ⟨.hbm, 175, rfl⟩
abbrev main_v60 : Ref sig .tc := ⟨.hbm, 176, rfl⟩
abbrev main_v61 : Ref sig .tc := ⟨.hbm, 177, rfl⟩
abbrev main_cst_4 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_cst_5 : Ref sig .tc := ⟨.hbm, 184, rfl⟩
abbrev main_v67 : Ref sig .tc := ⟨.hbm, 185, rfl⟩
abbrev main_v68 : Ref sig .tc := ⟨.hbm, 186, rfl⟩
abbrev main_cst_6 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_cst_7 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_cst_8 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_cst_9 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩

abbrev nD : Nat := 1
abbrev τ : Topo := Topo.v7x

variable {F : FTy → Type} [FloatOps F]

abbrev main_while0_count : Scf.Loop 32 := ⟨0#32, 200#32, 1#32⟩
-- ==== Proof.RefRun.lean ====
/- The reference's run over the step of its scan.  At contents that hold a state, one trip leaves the step's values; so one trip keeps holding with the step applied, and the program's result is read off the step
   iterated from the state the set-up leaves. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v56_8) = s.main_v56_8
  f_9 : V0 (Proc.devRef .tc main_v56_9) = s.main_v56_9
  f_0 : V0 (Proc.devRef .tc main_v56_0) = s.main_v56_0
  f_1 : V0 (Proc.devRef .tc main_v56_1) = s.main_v56_1
  f_2 : V0 (Proc.devRef .tc main_v56_2) = s.main_v56_2
  f_3 : V0 (Proc.devRef .tc main_v56_3) = s.main_v56_3
  f_4 : V0 (Proc.devRef .tc main_v56_4) = s.main_v56_4
  f_5 : V0 (Proc.devRef .tc main_v56_5) = s.main_v56_5
  f_6 : V0 (Proc.devRef .tc main_v56_6) = s.main_v56_6
  n_7 : V0 (Proc.devRef .tc main_v56_7) = constantI S_ 32 (BitVec.ofNat 32 j)

variable {V0 s j}

set_option maxRecDepth 8192 in
/-- The step's increments. -/
theorem v114 (h : Holds V0 s j) : res_main_while0b_v114 V0 = Step.b4 j s := by
  unfold res_main_while0b_v114 Step.b4 Step.b3 Step.b2 Step.b1 Step.b0
  rw [← h.f_0, ← h.n_7]
  rfl

set_option maxRecDepth 8192 in
/-- The step's inputs. -/
theorem v117 (h : Holds V0 s j) : res_main_while0b_v117 V0 = Step.b19 j s := by
  unfold res_main_while0b_v117 Step.b19 Step.b18 Step.b17 Step.b16 Step.b15
  rw [← h.f_3, ← h.n_7]
  rfl

set_option maxRecDepth 8192 in
/-- The step's gates. -/
theorem v118 (h : Holds V0 s j) : res_main_while0b_v118 V0 = Step.b24 j s := by
  unfold res_main_while0b_v118 Step.b24 Step.b23 Step.b22 Step.b21 Step.b20
  rw [← h.f_4, ← h.n_7]
  rfl

set_option maxRecDepth 8192 in
/-- The states after the step. -/
theorem v134 (h : Holds V0 s j) : res_main_while0b_v134 V0 = Step.b40 j s := by
  unfold res_main_while0b_v134 Step.b40 Step.b39 Step.b38 Step.b37 Step.b36 Step.b35 Step.b34 Step.b33 Step.b32 Step.b31 Step.b30 Step.b29 Step.b28 Step.b27 Step.b26 Step.b25 Step.b9 Step.b8 Step.b7 Step.b6 Step.b5
  rw [← v114 h, ← v117 h, ← h.f_1, ← h.f_5, ← h.f_8, ← h.n_7]
  rfl

set_option maxRecDepth 8192 in
/-- The step writes its outputs at its own time. -/
theorem step_9 (h : Holds V0 s j) : Value.step_main_v56_9 V0 = (step j s).main_v56_9 := by
  unfold Value.step_main_v56_9 Step.step
  simp only [Step.b60, Step.b59, Step.b58, Step.b57, Step.b56, Step.b55, Step.b54, Step.b53, Step.b52, Step.b51, Step.b50, Step.b49, Step.b48, Step.b47, Step.b46, Step.b45, Step.b44, Step.b43, Step.b42, Step.b41, Step.b14, Step.b13, Step.b12, Step.b11, Step.b10]
  rw [← v118 h, ← v117 h, ← v134 h, ← h.f_2, ← h.f_6, ← h.f_9, ← h.n_7]
  rfl

/-- The step's states are the next states. -/
theorem step_8 (h : Holds V0 s j) : Value.step_main_v56_8 V0 = (step j s).main_v56_8 := by
  unfold Value.step_main_v56_8 Step.step
  exact v134 h

/-- The step's number goes up by one. -/
theorem step_7 (h : Holds V0 s j) : step_main_v56_7 V0 = constantI S_ 32 (BitVec.ofNat 32 (j + 1)) := by
  unfold step_main_v56_7
  rw [h.n_7]
  funext i
  show BitVec.ofNat 32 j + 1#32 = BitVec.ofNat 32 (j + 1)
  simp only [BitVec.ofNat_add]

set_option maxRecDepth 8192 in
/-- The program's result is read off the state held after the loop. -/
theorem out_main_v113_holds (h : Holds V0 s j) {x_main_arg9 : (⟨S5x7x140, .f32⟩ : BufTy).Contents (Elt F)} (h_main_arg9 : V0 (Proc.devRef .tc main_arg9) = x_main_arg9) {x_main_arg10 : (⟨S5x7, .f32⟩ : BufTy).Contents (Elt F)} (h_main_arg10 : V0 (Proc.devRef .tc main_arg10) = x_main_arg10) {x_main_arg11 : (⟨S5x7, .f32⟩ : BufTy).Contents (Elt F)} (h_main_arg11 : V0 (Proc.devRef .tc main_arg11) = x_main_arg11) {x_main_arg12 : (⟨S5x7x7x3, .f32⟩ : BufTy).Contents (Elt F)} (h_main_arg12 : V0 (Proc.devRef .tc main_arg12) = x_main_arg12) {x_main_arg13 : (⟨S5x7, .f32⟩ : BufTy).Contents (Elt F)} (h_main_arg13 : V0 (Proc.devRef .tc main_arg13) = x_main_arg13) : out_main_v113 V0 = Cert.ReferenceIdeal.Step.R_main_v113 s x_main_arg9 x_main_arg10 x_main_arg11 x_main_arg12 x_main_arg13 := by
  unfold out_main_v113 Cert.ReferenceIdeal.Step.R_main_v113
  rw [h.f_9, h_main_arg9, h_main_arg10, h_main_arg11, h_main_arg12, h_main_arg13]
  try rfl

/-- One trip keeps the valuation holding: `step` of the state, the same set-up values, the next number. -/
theorem holds_step (h : Holds V0 s j) : Holds (STEP V0) (step j s) (j + 1) where
  f_8 := (STEP_main_v56_8 V0).trans (step_8 h)
  f_9 := (STEP_main_v56_9 V0).trans (step_9 h)
  n_7 := (STEP_main_v56_7 V0).trans (step_7 h)
  f_0 := (STEP_main_v56_0 V0).trans h.f_0
  f_1 := (STEP_main_v56_1 V0).trans h.f_1
  f_2 := (STEP_main_v56_2 V0).trans h.f_2
  f_3 := (STEP_main_v56_3 V0).trans h.f_3
  f_4 := (STEP_main_v56_4 V0).trans h.f_4
  f_5 := (STEP_main_v56_5 V0).trans h.f_5
  f_6 := (STEP_main_v56_6 V0).trans h.f_6

/-- The state the first trip starts from, of the memory the run starts from. -/
abbrev initState (m : (ℓ : Loc nD τ sig) → Buf (Elt F) ℓ) (c : Dev nD) : State F :=
  init (m ((c.tc : Thread nD τ).loc main_arg8)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 200 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v113) = Cert.ReferenceIdeal.Step.R_main_v113 (it c 200) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 200
    ⟨(h c).1.trans (out_main_v113_holds hk (iter_main_arg9 m c 200) (iter_main_arg10 m c 200) (iter_main_arg11 m c 200) (iter_main_arg12 m c 200) (iter_main_arg13 m c 200)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.ReferenceIdeal.RefRun

end
-- ==== Proof.Frames.lean ====
/- The two frames and what the claims need besides the value: every program ends with its arguments unchanged and its
   semaphores at zero. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.RefRun
public import Idealize.ShloMosaic.Lib.Quiescent

@[expose] public section

noncomputable section

namespace Cert.Frames

open Idealize.ShloMosaic Idealize.SL.Sem

/-- The kernel, over bit patterns, ends with its arguments unchanged and its semaphores at zero. -/
theorem kernel : Cert.quiescent_Kernel := fun m g _ => Cert.Kernel.Gen.frame m g

/-- The same of the kernel over extended reals. -/
theorem kernelIdeal : Cert.quiescent_KernelIdeal := fun m g _ => Cert.KernelIdeal.Gen.frame m g

/-- The states of the reference's scan, one device each. -/
def states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.RefRun.initState m c
  | n + 1 => Cert.ReferenceIdeal.Step.step n (states m c n)

/-- The reference ends with its arguments unchanged and its semaphores at zero. -/
theorem reference : Cert.quiescent_ReferenceIdeal := fun m g _ =>
  (θ_run _ _ _).mono (fun r h => ⟨fun c => (h c).2, sem_eq_zero_of_no_sems (by rfl) r.2⟩)
    (Cert.ReferenceIdeal.RefRun.run_iter m g (states m) (fun _ => rfl) (fun _ _ => rfl))

end Cert.Frames

end
-- ==== Proof.Spec.lean ====
/- The network's layer as functions on the extended reals: what both programs compute. -/
module

public import Idealize.ShloMosaic.Lib.Pointwise

@[expose] public section

noncomputable section

namespace Cert.Spec

open Idealize.ShloMosaic

/-- The arguments, read at their coordinates. -/
structure In where
  X : Fin 512 → Fin 1000 → Fin 7 → EReal
  W : Fin 5 → Fin 280 → Fin 7 → EReal
  cw : Fin 5 → Fin 140 → Fin 3 → EReal
  cb : Fin 5 → Fin 140 → EReal
  xp : Fin 5 → Fin 65 → Fin 140 → EReal
  dw : Fin 5 → Fin 140 → EReal
  db : Fin 5 → Fin 140 → EReal
  al : Fin 5 → Fin 140 → Fin 32 → EReal
  dp : Fin 5 → Fin 140 → EReal
  ow : Fin 5 → Fin 7 → Fin 140 → EReal
  g : Fin 5 → Fin 7 → EReal
  be : Fin 5 → Fin 7 → EReal
  cv : Fin 5 → Fin 7 → Fin 7 → Fin 3 → EReal
  cc : Fin 5 → Fin 7 → EReal

/-- `x` times its logistic. -/
def silu (x : EReal) : EReal := x * Ideal.logistic x

/-- The logarithm of `1 + e ^ x`, in the form both programs compute it. -/
def softplus (x : EReal) : EReal := max x 0 + Ideal.log1p (Ideal.exp (-(max x (-x))))

/-- `r` to the power `s + 1`, by repeated products. -/
def pwS (r : EReal) : ℕ → EReal
  | 0 => r
  | s + 1 => pwS r s * r

/-- The state `s` before step `t` of a scan with decay `r ^ (s + 1)` and input `dx * B`. -/
def hK (r dx : ℕ → EReal) (B : ℕ → ℕ → EReal) : ℕ → ℕ → EReal
  | 0, _ => 0
  | t + 1, s => hK r dx B t s * pwS (r t) s + dx t * B t s

/-- The gated output of step `t` of a scan. -/
def yK (r dx xi z : ℕ → EReal) (B C : ℕ → ℕ → EReal) (t : ℕ) : EReal :=
  ((∑ s : Fin 32, hK r dx B (t + 1) s * C t s) + xi t) * z t

/-- A function of the first `m` numbers, continued by zero. -/
def ext {m : ℕ} (f : Fin m → EReal) (t : ℕ) : EReal := if h : t < m then f ⟨t, h⟩ else 0

/-- The continued function at one of the first `m` numbers. -/
theorem ext_val {m : ℕ} (f : Fin m → EReal) (t : Fin m) : ext f t.val = f t := by
  unfold ext
  rw [dif_pos t.isLt]

/-- The continued function below `m`. -/
theorem ext_of_lt {m : ℕ} (f : Fin m → EReal) (t : ℕ) (h : t < m) : ext f t = f ⟨t, h⟩ := dif_pos h

variable (I : In)

/-- The sequence position of a branch's step. -/
def row (n : Fin 5) (l : Fin 200) : Fin 1000 := ⟨n.val * 200 + l.val, by omega⟩

/-- A channel among the scan's half of the input projection. -/
def lo (d : Fin 140) : Fin 280 := ⟨d.val, by omega⟩

/-- A channel among the gate's half of the input projection. -/
def hi (d : Fin 140) : Fin 280 := ⟨140 + d.val, by omega⟩

/-- A row of the input matrix in the second projection. -/
def bRow (s : Fin 32) : Fin 65 := ⟨1 + s.val, by omega⟩

/-- A row of the output matrix in the second projection. -/
def cRow (s : Fin 32) : Fin 65 := ⟨33 + s.val, by omega⟩

/-- The input projection. -/
def xz (n : Fin 5) (b : Fin 512) (l : Fin 200) (e : Fin 280) : EReal :=
  ∑ k : Fin 7, I.X b ⟨n.val * 200 + l.val, by omega⟩ k * I.W n e k

/-- The causal depthwise convolution of three taps. -/
def xc (n : Fin 5) (b : Fin 512) (l : Fin 200) (d : Fin 140) : EReal :=
  xz I n b l ⟨d.val, by omega⟩ * I.cw n d 2
    + (if h : l.val < 1 then 0 else xz I n b ⟨l.val - 1, by omega⟩ ⟨d.val, by omega⟩) * I.cw n d 1
    + (if h : l.val < 2 then 0 else xz I n b ⟨l.val - 2, by omega⟩ ⟨d.val, by omega⟩) * I.cw n d 0
    + I.cb n d

/-- The scan's input. -/
def xi (n : Fin 5) (b : Fin 512) (l : Fin 200) (d : Fin 140) : EReal := silu (xc I n b l d)

/-- The gate. -/
def zs (n : Fin 5) (b : Fin 512) (l : Fin 200) (d : Fin 140) : EReal := silu (xz I n b l ⟨140 + d.val, by omega⟩)

/-- The projection to the step size and the scan's matrices. -/
def xd (n : Fin 5) (b : Fin 512) (l : Fin 200) (e : Fin 65) : EReal := ∑ d : Fin 140, xi I n b l d * I.xp n e d

/-- The step size. -/
def delta (n : Fin 5) (b : Fin 512) (l : Fin 200) (d : Fin 140) : EReal :=
  softplus (xd I n b l 0 * I.dw n d + I.db n d)

/-- The scan's input matrix. -/
def bm (n : Fin 5) (b : Fin 512) (l : Fin 200) (s : Fin 32) : EReal := xd I n b l ⟨1 + s.val, by omega⟩

/-- The scan's output matrix. -/
def cm (n : Fin 5) (b : Fin 512) (l : Fin 200) (s : Fin 32) : EReal := xd I n b l ⟨33 + s.val, by omega⟩

/-- The scan's gated output. -/
def yg (n : Fin 5) (b : Fin 512) (l : Fin 200) (d : Fin 140) : EReal :=
  yK (ext fun l => Ideal.exp (-(delta I n b l d))) (ext fun l => delta I n b l d * xi I n b l d)
    (ext fun l => I.dp n d * xi I n b l d) (ext fun l => zs I n b l d)
    (fun t s => ext (fun l => ext (bm I n b l) s) t) (fun t s => ext (fun l => ext (cm I n b l) s) t) l.val

/-- The output projection. -/
def op (n : Fin 5) (b : Fin 512) (l : Fin 200) (o : Fin 7) : EReal := ∑ d : Fin 140, yg I n b l d * I.ow n o d

/-- The number of rows that a channel's statistics run over. -/
def cnt : EReal := Ideal.ofBits .f32 0x47C80000#32

/-- The number the variance is kept away from zero with. -/
def eps : EReal := Ideal.ofBits .f32 0x3727C5AC#32

/-- A channel's mean. -/
def mu (n : Fin 5) (o : Fin 7) : EReal := Ideal.div (∑ b : Fin 512, ∑ l : Fin 200, op I n b l o) cnt

/-- A channel's variance. -/
def var (n : Fin 5) (o : Fin 7) : EReal :=
  Ideal.div (∑ b : Fin 512, ∑ l : Fin 200, (op I n b l o - mu I n o) * (op I n b l o - mu I n o)) cnt

/-- The normalised channel. -/
def bn (n : Fin 5) (b : Fin 512) (l : Fin 200) (o : Fin 7) : EReal :=
  Ideal.div (op I n b l o - mu I n o) (Ideal.sqrt (var I n o + eps)) * I.g n o + I.be n o

/-- The circular convolution of three taps over a sequence `T`. -/
def conv (T : Fin 200 → Fin 7 → EReal) (n : Fin 5) (l : Fin 200) (o : Fin 7) : EReal :=
  (∑ i : Fin 7, T ⟨(l.val + 199) % 200, Nat.mod_lt _ (by decide)⟩ i * I.cv n o i 0)
    + (∑ i : Fin 7, T l i * I.cv n o i 1)
    + (∑ i : Fin 7, T ⟨(l.val + 1) % 200, Nat.mod_lt _ (by decide)⟩ i * I.cv n o i 2) + I.cc n o

/-- The unit that is linear above zero and exponential below. -/
def elu (x : EReal) : EReal := if 0 < x then x else Ideal.exp x - 1

/-- The layer's result. -/
def out (n : Fin 5) (b : Fin 512) (l : Fin 200) (o : Fin 7) : EReal :=
  elu (conv I (bn I n b) n l o)

end Cert.Spec
end
-- ==== Proof.KRun.lean ====
/- The kernel's run: it ends with the layer's array in its result, and its arguments unchanged. -/
module

public import proofs.«01_k».proof.Proof.Gen.KernelIdeal.Frame
public import proofs.«01_k».proof.Proof.Spec

@[expose] public section

set_option maxRecDepth 16384

noncomputable section

namespace Cert.KernelIdeal.Run

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel ends with its result at what the last host operation leaves, and every argument as launched. -/
theorem run : θ_run (defs (F := Ideal)) (onTc (τ := τ) (main (F := Ideal))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => (fun c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩))

end Cert.KernelIdeal.Run
end
-- ==== Proof.Proj.lean ====
/- What the first call's body computes from its blocks, at an index: the convolved input, the gate, the step size and the scan's matrices. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Proj

open Idealize.ShloMosaic Idealize.ShloMosaic.Tactic Cert.KernelIdeal Cert.KernelIdeal.Gen Cert.Spec

/-- The step size as the kernel computes it, from the product of the two weights. -/
def deltaK (I : In) (n : Fin 5) (b : Fin 512) (l : Fin 200) (d : Fin 140) : EReal :=
  softplus ((∑ e : Fin 140, xi I n b l e * (I.xp n 0 e * I.dw n d)) + I.db n d)

variable (I : In) (n : Fin 5) (bb : Fin 8 → Fin 512)
  (x0 : FVec Ideal S1x200x8x7 .f32) (x1 x2 : FVec Ideal S1x7x140 .f32) (x3 : FVec Ideal S1x3x140 .f32) (x4 x6 x9 : FVec Ideal S1x1x140 .f32)
  (x5 : FVec Ideal S1x140x140 .f32) (x7 x8 : FVec Ideal S1x140x32 .f32)
  (h0 : ∀ (l : Fin 200) (b : Fin 8) (k : Fin 7), x0 (ix4 0 l b k) = I.X (bb b) (row n l) k)
  (h1 : ∀ (k : Fin 7) (d : Fin 140), x1 (ix3 0 k d) = I.W n (lo d) k)
  (h2 : ∀ (k : Fin 7) (d : Fin 140), x2 (ix3 0 k d) = I.W n (hi d) k)
  (h3 : ∀ (k : Fin 3) (d : Fin 140), x3 (ix3 0 k d) = I.cw n d k)
  (h4 : ∀ d : Fin 140, x4 (ix3 0 0 d) = I.cb n d)
  (h5 : ∀ e d : Fin 140, x5 (ix3 0 e d) = I.xp n 0 e * I.dw n d)
  (h6 : ∀ d : Fin 140, x6 (ix3 0 0 d) = I.db n d)
  (h7 : ∀ (d : Fin 140) (s : Fin 32), x7 (ix3 0 d s) = I.xp n (bRow s) d)
  (h8 : ∀ (d : Fin 140) (s : Fin 32), x8 (ix3 0 d s) = I.xp n (cRow s) d)
  (h9 : ∀ d : Fin 140, x9 (ix3 0 0 d) = I.dp n d)

include h0 h1 h3 in
/-- The convolution before its bias, plus the bias. -/
theorem conv_at (l : Fin 200) (b : Fin 8) (d : Fin 140) :
    (k0_pay3 (F := Ideal) x0 x1 x3 (ix3 l b d) : EReal) + I.cb n d = xc I n (bb b) l d := by
  pointwise [k0_pay3, k0_pay1]
  simp only [h0, h1, h3]
  refine congrArg (· + I.cb n d) (congrArg₂ (· + ·) (congrArg₂ (· + ·) rfl (congrArg (· * I.cw n d 1) ?_)) (congrArg (· * I.cw n d 0) ?_))
  · by_cases h : l.val < 1
    · refine (dif_pos h).trans (Eq.symm ?_)
      exact dif_pos h
    · refine (dif_neg h).trans (Eq.trans ?_ (dif_neg h).symm)
      exact Finset.sum_congr rfl fun x _ => congrArg (fun q => I.X (bb b) q x * I.W n ⟨d.val, by omega⟩ x)
        (Fin.ext (show n.val * 200 + ((l.val - 1) * 8 + b.val) / 8 = n.val * 200 + (l.val - 1) by omega))
  · by_cases h : l.val < 2
    · refine Eq.trans (b := 0) ?_ (Eq.symm (dif_pos h))
      by_cases h' : l.val < 1
      · exact dif_pos h'
      · refine (dif_neg h').trans ?_
        exact dif_pos (show l.val - 1 < 1 by omega)
    · refine (dif_neg (by omega)).trans ((dif_neg (by omega)).trans (Eq.trans ?_ (dif_neg h).symm))
      exact Finset.sum_congr rfl fun x _ => congrArg (fun q => I.X (bb b) q x * I.W n ⟨d.val, by omega⟩ x)
        (Fin.ext (show n.val * 200 + ((l.val - 1 - 1) * 8 + b.val) / 8 = n.val * 200 + (l.val - 2) by omega))

include h4 in
/-- The bias under every row. -/
theorem bias_at (l : Fin 200) (b : Fin 8) (d : Fin 140) : k0_pay4 (F := Ideal) x4 (ix3 l b d) = I.cb n d := by
  pointwise [k0_pay4]
  rw [h4]

include h0 h1 h3 h4 in
/-- The convolution, of all blocks. -/
theorem conv_bias_at (l : Fin 200) (b : Fin 8) (d : Fin 140) :
    (k0_pay16 (F := Ideal) x0 x1 x2 x3 x4 x5 x6 x7 x8 x9 (ix3 l b d) : EReal) + k0_pay17 (F := Ideal) x0 x1 x2 x3 x4 x5 x6 x7 x8 x9 (ix3 l b d) = xc I n (bb b) l d := by
  have e0 : View.ld (Val := Elt Ideal) (e' := .f32) x0 r0_0 = x0 := View.ld_unit_lit (Val := Elt Ideal) (e := .f32) (S := S1x200x8x7) (off := ![0, 0, 0, 0]) _ x0 (by decide)
  have e1 : View.ld (Val := Elt Ideal) (e' := .f32) x1 r0_1 = x1 := View.ld_unit_lit (Val := Elt Ideal) (e := .f32) (S := S1x7x140) (off := ![0, 0, 0]) _ x1 (by decide)
  have e3 : View.ld (Val := Elt Ideal) (e' := .f32) x3 r0_2 = x3 := View.ld_unit_lit (Val := Elt Ideal) (e := .f32) (S := S1x3x140) (off := ![0, 0, 0]) _ x3 (by decide)
  have e4 : View.ld (Val := Elt Ideal) (e' := .f32) x4 r0_3 = x4 := View.ld_unit_lit (Val := Elt Ideal) (e := .f32) (S := S1x1x140) (off := ![0, 0, 0]) _ x4 (by decide)
  unfold k0_pay16 k0_pay17
  rw [e0, e1, e3, e4]
  exact (congrArg (k0_pay3 (F := Ideal) x0 x1 x3 (ix3 l b d) + ·) (bias_at I n x4 h4 l b d)).trans (conv_at I n bb x0 x1 x3 h0 h1 h3 l b d)

variable (v33 v38 : FVec Ideal S200x8x140 .f32) (hv : ∀ (l : Fin 200) (b : Fin 8) (d : Fin 140), (v33 (ix3 l b d) : EReal) + v38 (ix3 l b d) = xc I n (bb b) l d)
include hv

/-- The scan's input. -/
theorem xi_at (l : Fin 200) (b : Fin 8) (d : Fin 140) : k0_pay5 (F := Ideal) v33 v38 (ix2 ⟨l.val * 8 + b.val, by omega⟩ d) = xi I n (bb b) l d := by
  pointwise [k0_pay5]
  rw [hv]
  rfl

include h5 h6 in
/-- The step size. -/
theorem delta_at (l : Fin 200) (b : Fin 8) (d : Fin 140) : k0_pay6 (F := Ideal) v33 v38 x5 x6 (ix2 ⟨l.val * 8 + b.val, by omega⟩ d) = deltaK I n (bb b) l d := by
  pointwise [k0_pay6]
  simp only [xi_at I n bb v33 v38 hv, h5, h6]
  rw [if_neg (by simp), zero_sub]
  rfl

include h5 h6 in
/-- The decay, in its block. -/
theorem r_at (l : Fin 200) (b : Fin 8) (d : Fin 140) : k0_pay10 (F := Ideal) (k0_pay9 v33 v38 x5 x6) (ix4 0 l b d) = Ideal.exp (-(deltaK I n (bb b) l d)) := by
  pointwise [k0_pay10, k0_pay9]
  rw [delta_at I n bb x6 x5 h5 h6 v33 v38 hv, zero_sub]

include h7 in
/-- The scan's input matrix, in its block. -/
theorem bm_at (l : Fin 200) (b : Fin 8) (s : Fin 32) : k0_pay14 (F := Ideal) (k0_pay7 v33 v38 x7) (ix4 0 l b s) = bm I n (bb b) l s := by
  pointwise [k0_pay14, k0_pay7]
  simp only [xi_at I n bb v33 v38 hv, h7]
  rfl

include h8 in
/-- The scan's output matrix, in its block. -/
theorem cm_at (l : Fin 200) (b : Fin 8) (s : Fin 32) : k0_pay15 (F := Ideal) (k0_pay8 v33 v38 x8) (ix4 0 l b s) = cm I n (bb b) l s := by
  pointwise [k0_pay15, k0_pay8]
  simp only [xi_at I n bb v33 v38 hv, h8]
  rfl

include h5 h6 in
/-- The step size times the input, in its block. -/
theorem dx_at (l : Fin 200) (b : Fin 8) (d : Fin 140) : k0_pay11 (F := Ideal) (k0_pay5 v33 v38) (k0_pay6 v33 v38 x5 x6) (ix4 0 l b d) = deltaK I n (bb b) l d * xi I n (bb b) l d := by
  pointwise [k0_pay11]
  rw [delta_at I n bb x6 x5 h5 h6 v33 v38 hv, xi_at I n bb v33 v38 hv]

include h9 in
/-- The weighted input, in its block. -/
theorem wxi_at (l : Fin 200) (b : Fin 8) (d : Fin 140) : k0_pay12 (F := Ideal) (k0_pay5 v33 v38) x9 (ix4 0 l b d) = I.dp n d * xi I n (bb b) l d := by
  pointwise [k0_pay12]
  rw [xi_at I n bb v33 v38 hv, h9]

omit hv
include h0 h2 in
/-- The gate, in its block. -/
theorem zs_at (l : Fin 200) (b : Fin 8) (d : Fin 140) : k0_pay13 (F := Ideal) (k0_pay2 x0 x2) (ix4 0 l b d) = zs I n (bb b) l d := by
  pointwise [k0_pay13, k0_pay2, k0_pay1]
  simp only [h0, h2]
  rfl

end Cert.KernelIdeal.Proj
end
-- ==== Proof.ScanSpec.lean ====
/- The scalar scan depends on its past alone, and a projection over padded channels in four groups is the projection. -/
module

public import proofs.«01_k».proof.Proof.Proj

@[expose] public section

noncomputable section

namespace Cert.Spec

open Idealize.ShloMosaic Cert.KernelIdeal.Proj

/-- States agree before a step whose past agrees. -/
theorem hK_congr {r r' dx dx' : ℕ → EReal} {B B' : ℕ → ℕ → EReal} : ∀ t : ℕ, (∀ u < t, r u = r' u) → (∀ u < t, dx u = dx' u) →
    (∀ u < t, ∀ s < 32, B u s = B' u s) → ∀ s < 32, hK r dx B t s = hK r' dx' B' t s
  | 0, _, _, _, _, _ => rfl
  | t + 1, hr, hd, hB, s, hs => by
    unfold hK
    rw [hK_congr t (fun u hu => hr u (by omega)) (fun u hu => hd u (by omega)) (fun u hu => hB u (by omega)) s hs, hr t (by omega), hd t (by omega),
      hB t (by omega) s hs]

/-- Gated outputs agree at a step whose past and present agree. -/
theorem yK_congr {r r' dx dx' xi xi' z z' : ℕ → EReal} {B B' C C' : ℕ → ℕ → EReal} (t : ℕ) (hr : ∀ u ≤ t, r u = r' u) (hd : ∀ u ≤ t, dx u = dx' u)
    (hx : xi t = xi' t) (hz : z t = z' t) (hB : ∀ u ≤ t, ∀ s < 32, B u s = B' u s) (hC : ∀ s < 32, C t s = C' t s) :
    yK r dx xi z B C t = yK r' dx' xi' z' B' C' t := by
  unfold yK
  rw [hx, hz]
  refine congrArg (fun q => (q + xi' t) * z' t) (Finset.sum_congr rfl fun s _ => ?_)
  rw [hK_congr (t + 1) (fun u hu => hr u (by omega)) (fun u hu => hd u (by omega)) (fun u hu => hB u (by omega)) s.val s.isLt, hC s.val s.isLt]

variable (I : In)

/-- The scan's gated output with the kernel's step size. -/
def ygK (n : Fin 5) (b : Fin 512) (l : Fin 200) (d : Fin 140) : EReal :=
  yK (ext fun l => Ideal.exp (-(deltaK I n b l d))) (ext fun l => deltaK I n b l d * xi I n b l d)
    (ext fun l => I.dp n d * xi I n b l d) (ext fun l => zs I n b l d)
    (fun t s => ext (fun l => ext (bm I n b l) s) t) (fun t s => ext (fun l => ext (cm I n b l) s) t) l.val

/-- The output projection with the kernel's step size. -/
def opK (n : Fin 5) (b : Fin 512) (l : Fin 200) (o : Fin 7) : EReal := ∑ d : Fin 140, ygK I n b l d * I.ow n o d

/-- A sum over four groups of forty of two padded functions. -/
theorem sum_groups (f g : Fin 140 → EReal) :
    ∑ k : Fin 4, ∑ d : Fin 40, ext f (40 * k.val + d.val) * ext g (40 * k.val + d.val) = ∑ d : Fin 140, g d * f d := by
  have e : ∀ F : ℕ → EReal, ∑ k : Fin 4, ∑ d : Fin 40, F (40 * k.val + d.val) = ∑ m ∈ Finset.range 160, F m := by
    intro F
    rw [show 160 = 40 + 40 + 40 + 40 from rfl, Finset.sum_range_add, Finset.sum_range_add, Finset.sum_range_add, Fin.sum_univ_four]
    simp only [Finset.sum_range]
    simp
  rw [e fun m => ext f m * ext g m, show 160 = 140 + 20 from rfl, Finset.sum_range_add, Finset.sum_range]
  have z : ∑ x ∈ Finset.range 20, ext f (140 + x) * ext g (140 + x) = 0 := Finset.sum_eq_zero fun x _ => by
    have : ext f (140 + x) = 0 := dif_neg (by omega)
    rw [this, zero_mul]
  rw [z, add_zero]
  exact Finset.sum_congr rfl fun d _ => by rw [ext_val, ext_val, mul_comm]

end Cert.Spec
end
-- ==== Proof.PostSpec.lean ====
/- The normalisation as the kernel spells it: a scale and a shift off the sums and the sums of squares. -/
module

public import proofs.«01_k».proof.Proof.ScanSpec

@[expose] public section

noncomputable section

namespace Cert.Spec

open Idealize.ShloMosaic

/-- A batch row by its block and its lane. -/
def lane (j : Fin 4) (b : Fin 128) : Fin 512 := ⟨128 * j.val + b.val, by omega⟩

variable (I : In)

/-- A channel's mean. -/
def muK (n : Fin 5) (o : Fin 7) : EReal := Ideal.div (∑ j : Fin 4, ∑ b : Fin 128, ∑ l : Fin 200, opK I n (lane j b) l o) cnt

/-- A channel's variance: the mean of the squares less the square of the mean. -/
def varK (n : Fin 5) (o : Fin 7) : EReal :=
  Ideal.div (∑ j : Fin 4, ∑ b : Fin 128, ∑ l : Fin 200, opK I n (lane j b) l o * opK I n (lane j b) l o) cnt - muK I n o * muK I n o

/-- The scale. -/
def scaleK (n : Fin 5) (o : Fin 7) : EReal := I.g n o * Ideal.rsqrt (varK I n o + eps)

/-- The shift. -/
def shiftK (n : Fin 5) (o : Fin 7) : EReal := I.be n o - muK I n o * scaleK I n o

/-- The normalised channel. -/
def bnK (n : Fin 5) (b : Fin 512) (l : Fin 200) (o : Fin 7) : EReal := opK I n b l o * scaleK I n o + shiftK I n o

/-- The kernel's result. -/
def outK (n : Fin 5) (b : Fin 512) (l : Fin 200) (o : Fin 7) : EReal := elu (conv I (bnK I n b) n l o)

end Cert.Spec
end
-- ==== Proof.RealVal.lean ====
/- The extended reals that are real numbers, and what keeps a value among them. -/
module

public import proofs.«01_k».proof.Proof.PostSpec
public import Idealize.ShloMosaic.Lib.IdealHost

@[expose] public section

noncomputable section

namespace Cert.RealVal

open Idealize.ShloMosaic Cert.Spec

/-- A value that is a real number. -/
def IsR (x : EReal) : Prop := ∃ r : ℝ, x = (r : EReal)

/-- A real number is real. -/
theorem coe (r : ℝ) : IsR (r : EReal) := ⟨r, rfl⟩

/-- Zero is real. -/
theorem zero : IsR 0 := ⟨0, rfl⟩

/-- A sum of two reals is real. -/
theorem add {x y : EReal} : IsR x → IsR y → IsR (x + y) := by
  rintro ⟨a, rfl⟩ ⟨b, rfl⟩
  exact ⟨a + b, (EReal.coe_add a b).symm⟩

/-- A product of two reals is real. -/
theorem mul {x y : EReal} : IsR x → IsR y → IsR (x * y) := by
  rintro ⟨a, rfl⟩ ⟨b, rfl⟩
  exact ⟨a * b, (EReal.coe_mul a b).symm⟩

/-- The negative of a real is real. -/
theorem neg {x : EReal} : IsR x → IsR (-x) := by
  rintro ⟨a, rfl⟩
  exact ⟨-a, (EReal.coe_neg a).symm⟩

/-- A real's exponential is real. -/
theorem exp {x : EReal} : IsR x → IsR (Ideal.exp x) := by
  rintro ⟨a, rfl⟩
  exact ⟨Real.exp a, rfl⟩

/-- A sum of real numbers among the extended reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum {ι : Type} [Fintype ι] {f : ι → EReal} (h : ∀ i, IsR (f i)) : IsR (∑ i, f i) := by
  choose g hg using h
  exact ⟨∑ i, g i, by rw [coe_sum]; exact Finset.sum_congr rfl fun i _ => hg i⟩

/-- The gate of a real is real. -/
theorem silu {x : EReal} : IsR x → IsR (Spec.silu x) := by
  rintro ⟨a, rfl⟩
  unfold Spec.silu
  rw [Ideal.logistic_coe]
  exact mul (coe _) (coe _)

/-- The softplus of a real is real. -/
theorem softplus {x : EReal} : IsR x → IsR (Spec.softplus x) := by
  rintro ⟨a, rfl⟩
  unfold Spec.softplus Ideal.log1p
  refine add ?_ ?_
  · rcases max_choice (a : EReal) 0 with e | e <;> rw [e]
    · exact coe a
    · exact zero
  · have hm : IsR (max (a : EReal) (-(a : EReal))) := by
      rcases max_choice (a : EReal) (-(a : EReal)) with e | e <;> rw [e]
      · exact coe a
      · exact neg (coe a)
    obtain ⟨q, hq⟩ := neg hm
    rw [hq, Ideal.exp_coe, ← EReal.coe_one, ← EReal.coe_add, Ideal.log_coe, if_neg (not_le.mpr (by positivity))]
    exact coe _

/-- A real's powers are real. -/
theorem pwS {r : EReal} (h : IsR r) : ∀ s, IsR (Spec.pwS r s)
  | 0 => h
  | s + 1 => mul (pwS h s) h

/-- A sequence of reals continued by zero is real. -/
theorem ext {m : ℕ} {f : Fin m → EReal} (h : ∀ i, IsR (f i)) (t : ℕ) : IsR (Spec.ext f t) := by
  unfold Spec.ext
  split
  · exact h _
  · exact zero

/-- The scan's states are real. -/
theorem hK {r dx : ℕ → EReal} {B : ℕ → ℕ → EReal} (hr : ∀ t, IsR (r t)) (hd : ∀ t, IsR (dx t)) (hB : ∀ t s, IsR (B t s)) : ∀ t s, IsR (Spec.hK r dx B t s)
  | 0, _ => zero
  | t + 1, s => add (mul (hK hr hd hB t s) (pwS (hr t) s)) (mul (hd t) (hB t s))

/-- The scan's outputs are real. -/
theorem yK {r dx xi z : ℕ → EReal} {B C : ℕ → ℕ → EReal} (hr : ∀ t, IsR (r t)) (hd : ∀ t, IsR (dx t)) (hx : ∀ t, IsR (xi t)) (hz : ∀ t, IsR (z t)) (hB : ∀ t s, IsR (B t s))
    (hC : ∀ t s, IsR (C t s)) (t : ℕ) : IsR (Spec.yK r dx xi z B C t) :=
  mul (add (sum fun s => mul (hK hr hd hB (t + 1) s.val) (hC t s.val)) (hx t)) (hz t)

/-- What the layer's inputs are: real numbers where they are multiplied, and the logarithms of the state's numbers. -/
structure Real (I : In) : Prop where
  X b t k : IsR (I.X b t k)
  W n e k : IsR (I.W n e k)
  cw n d k : IsR (I.cw n d k)
  cb n d : IsR (I.cb n d)
  xp n e d : IsR (I.xp n e d)
  dw n d : IsR (I.dw n d)
  db n d : IsR (I.db n d)
  al n d s : I.al n d s = Ideal.log ((((s : Fin 32).val + 1 : ℕ) : ℝ) : EReal)
  dp n d : IsR (I.dp n d)
  ow n o d : IsR (I.ow n o d)
  g n o : IsR (I.g n o)

variable {I : In} (h : Real I)
include h

/-- The input projection is real. -/
theorem xz (n : Fin 5) (b : Fin 512) (l : Fin 200) (e : Fin 280) : IsR (Spec.xz I n b l e) := sum fun _ => mul (h.X ..) (h.W ..)

/-- The convolved input is real. -/
theorem xc (n : Fin 5) (b : Fin 512) (l : Fin 200) (d : Fin 140) : IsR (Spec.xc I n b l d) := by
  unfold Spec.xc
  refine add (add (add (mul (xz h ..) (h.cw ..)) (mul ?_ (h.cw ..))) (mul ?_ (h.cw ..))) (h.cb ..) <;> split <;> first | exact zero | exact xz h ..

/-- The scan's input is real. -/
theorem xi (n : Fin 5) (b : Fin 512) (l : Fin 200) (d : Fin 140) : IsR (Spec.xi I n b l d) := silu (xc h ..)

/-- The gates are real. -/
theorem zs (n : Fin 5) (b : Fin 512) (l : Fin 200) (d : Fin 140) : IsR (Spec.zs I n b l d) := silu (xz h ..)

/-- The second projection is real. -/
theorem xd (n : Fin 5) (b : Fin 512) (l : Fin 200) (e : Fin 65) : IsR (Spec.xd I n b l e) := sum fun _ => mul (xi h ..) (h.xp ..)

/-- The increments are real. -/
theorem delta (n : Fin 5) (b : Fin 512) (l : Fin 200) (d : Fin 140) : IsR (Spec.delta I n b l d) := softplus (add (mul (xd h ..) (h.dw ..)) (h.db ..))

/-- The gated outputs are real. -/
theorem yg (n : Fin 5) (b : Fin 512) (l : Fin 200) (d : Fin 140) : IsR (Spec.yg I n b l d) :=
  yK (ext fun _ => exp (neg (delta h ..))) (ext fun _ => mul (delta h ..) (xi h ..)) (ext fun _ => mul (h.dp ..) (xi h ..)) (ext fun _ => zs h ..)
    (fun t s => ext (fun _ => ext (fun _ => xd h ..) s) t) (fun t s => ext (fun _ => ext (fun _ => xd h ..) s) t) l.val

/-- The output projection is real. -/
theorem op (n : Fin 5) (b : Fin 512) (l : Fin 200) (o : Fin 7) : IsR (Spec.op I n b l o) := sum fun _ => mul (yg h ..) (h.ow ..)

/-- The merged weights give the same step size. -/
theorem deltaK_eq (n : Fin 5) (b : Fin 512) (l : Fin 200) (d : Fin 140) : Cert.KernelIdeal.Proj.deltaK I n b l d = Spec.delta I n b l d := by
  unfold Cert.KernelIdeal.Proj.deltaK Spec.delta
  refine congrArg (fun q => Spec.softplus (q + I.db n d)) ?_
  unfold Spec.xd
  choose x hx using fun e => xi h n b l e
  choose w hw using fun e => h.xp n 0 e
  obtain ⟨v, hv⟩ := h.dw n d
  simp only [hx, hw, hv, ← EReal.coe_mul, ← coe_sum]
  rw [Finset.sum_mul]
  exact congrArg _ (Finset.sum_congr rfl fun e _ => (mul_assoc _ _ _).symm)

/-- So the scans agree. -/
theorem ygK_eq (n : Fin 5) (b : Fin 512) (l : Fin 200) (d : Fin 140) : ygK I n b l d = Spec.yg I n b l d := by
  unfold ygK Spec.yg
  simp only [deltaK_eq h]

/-- So the projections agree. -/
theorem opK_eq (n : Fin 5) (b : Fin 512) (l : Fin 200) (o : Fin 7) : opK I n b l o = Spec.op I n b l o :=
  Finset.sum_congr rfl fun d _ => by rw [ygK_eq h]

omit h in
/-- Powers by repeated products of an exponential. -/
theorem pwS_exp (δ : ℝ) : ∀ s : ℕ, Spec.pwS (Ideal.exp (-(δ : EReal))) s = ((Real.exp (δ * -((s + 1 : ℕ) : ℝ)) : ℝ) : EReal)
  | 0 => by
    rw [Spec.pwS, ← EReal.coe_neg, Ideal.exp_coe]
    norm_num
  | s + 1 => by
    rw [Spec.pwS, pwS_exp δ s, ← EReal.coe_neg, Ideal.exp_coe, ← EReal.coe_mul, ← Real.exp_add]
    refine congrArg (fun q : ℝ => ((Real.exp q : ℝ) : EReal)) ?_
    push_cast
    ring

/-- The decay of a state is a power of the step's decay. -/
theorem decay_eq (n : Fin 5) (b : Fin 512) (l : Fin 200) (d : Fin 140) (s : Fin 32) :
    Ideal.exp (Spec.delta I n b l d * -(Ideal.exp (I.al n d s))) = Spec.pwS (Ideal.exp (-(Spec.delta I n b l d))) s.val := by
  obtain ⟨δ, hδ⟩ := delta h n b l d
  have hp : (0 : ℝ) < ((s.val + 1 : ℕ) : ℝ) := by positivity
  rw [hδ, pwS_exp, h.al, Ideal.log_coe, if_neg (not_le.mpr hp), Ideal.exp_coe, Real.exp_log hp, ← EReal.coe_neg, ← EReal.coe_mul, Ideal.exp_coe]

end Cert.RealVal
end
-- ==== Proof.Norm.lean ====
/- The normalisation by a scale and a shift is the normalisation, over real numbers. -/
module

public import proofs.«01_k».proof.Proof.RealVal

@[expose] public section

noncomputable section

namespace Cert.RealVal

open Idealize.ShloMosaic Cert.Spec

/-- The number of rows, as a real number. -/
theorem cnt_eq : cnt = ((102400 : ℝ) : EReal) := by
  unfold cnt
  simp [Ideal.ofBits, Ideal.ieee, -EReal.coe_mul]
  norm_num

/-- The number added to a variance is a positive real number. -/
theorem eps_eq : ∃ e : ℝ, 0 < e ∧ eps = (e : EReal) := by
  refine ⟨(2 ^ 23 + 0x27C5AC) * 2 ^ (-40 : ℤ), by positivity, ?_⟩
  unfold eps
  simp [Ideal.ofBits, Ideal.ieee, -EReal.coe_mul]
  norm_num

/-- Division by the number of rows. -/
theorem div_cnt (a : ℝ) : Ideal.div (a : EReal) cnt = ((a / 102400 : ℝ) : EReal) := by
  rw [cnt_eq, Ideal.div_coe (by norm_num), ← EReal.coe_mul, mul_one_div]

/-- The blocks and lanes are the batch rows. -/
theorem sum_lanes {M : Type} [AddCommMonoid M] (f : Fin 512 → M) : ∑ j : Fin 4, ∑ b : Fin 128, f (lane j b) = ∑ b : Fin 512, f b := by
  rw [← Fintype.sum_prod_type' (fun j b => f (lane j b))]
  refine Fintype.sum_equiv (finProdFinEquiv : Fin 4 × Fin 128 ≃ Fin 512) _ _ fun p => congrArg f (Fin.ext ?_)
  show 128 * p.1.val + p.2.val = p.2.val + 128 * p.1.val
  omega

/-- The mean of the squares less the square of the mean is the mean of the squared deviations. -/
theorem var_real (t : Fin 512 → Fin 200 → ℝ) (μ : ℝ) (hμ : μ = (∑ b, ∑ l, t b l) / 102400) :
    (∑ b, ∑ l, t b l * t b l) / 102400 - μ * μ = (∑ b, ∑ l, (t b l - μ) * (t b l - μ)) / 102400 := by
  have e : ∑ b : Fin 512, ∑ l : Fin 200, (t b l - μ) * (t b l - μ) = (∑ b, ∑ l, t b l * t b l) - 2 * μ * (∑ b, ∑ l, t b l) + 102400 * (μ * μ) := by
    have q : ∀ b l, (t b l - μ) * (t b l - μ) = t b l * t b l - 2 * μ * t b l + μ * μ := fun b l => by ring
    simp only [q, Finset.sum_add_distrib, Finset.sum_sub_distrib, ← Finset.mul_sum, Finset.sum_const, Finset.card_univ, Fintype.card_fin, nsmul_eq_mul]
    ring
  have s : ∑ b, ∑ l, t b l = 102400 * μ := by rw [hμ]; ring
  rw [e, s]
  ring

variable {I : In} (h : Real I)
include h

/-- The normalised channels agree. -/
theorem bn_eq (n : Fin 5) (b : Fin 512) (l : Fin 200) (o : Fin 7) : bnK I n b l o = bn I n b l o := by
  choose t ht using fun b l => op h n b l o
  obtain ⟨g, hg⟩ := h.g n o
  obtain ⟨e, he, hE⟩ := eps_eq
  have hm : mu I n o = (((∑ b, ∑ l, t b l) / 102400 : ℝ) : EReal) := by
    unfold mu
    simp only [ht, ← coe_sum]
    exact div_cnt _
  obtain ⟨μ, hμ⟩ : ∃ μ : ℝ, μ = (∑ b, ∑ l, t b l) / 102400 := ⟨_, rfl⟩
  rw [← hμ] at hm
  have hmK : muK I n o = (μ : EReal) := by
    rw [← hm]
    unfold muK mu
    rw [sum_lanes (fun b => ∑ l : Fin 200, opK I n b l o)]
    simp only [opK_eq h]
  have hv : var I n o = (((∑ b, ∑ l, (t b l - μ) * (t b l - μ)) / 102400 : ℝ) : EReal) := by
    unfold var
    simp only [ht, hm, ← EReal.coe_sub, ← EReal.coe_mul, ← coe_sum]
    exact div_cnt _
  have hvK : varK I n o = var I n o := by
    rw [hv, ← var_real t μ hμ]
    unfold varK
    rw [sum_lanes (fun b => ∑ l : Fin 200, opK I n b l o * opK I n b l o), hmK]
    simp only [opK_eq h, ht, ← EReal.coe_mul, ← coe_sum]
    rw [div_cnt, ← EReal.coe_sub]
  obtain ⟨v, hvv⟩ : ∃ v : ℝ, v = (∑ b, ∑ l, (t b l - μ) * (t b l - μ)) / 102400 := ⟨_, rfl⟩
  have hv0 : 0 ≤ v := by
    rw [hvv]
    exact div_nonneg (Finset.sum_nonneg fun b _ => Finset.sum_nonneg fun l _ => mul_self_nonneg _) (by norm_num)
  rw [← hvv] at hv
  have hp : 0 < v + e := by positivity
  have hs : Real.sqrt (v + e) ≠ 0 := (Real.sqrt_pos.mpr hp).ne'
  have hsc : scaleK I n o = ((g * (Real.sqrt (v + e))⁻¹ : ℝ) : EReal) := by
    unfold scaleK
    rw [hvK, hv, hE, hg, ← EReal.coe_add, Ideal.rsqrt_coe, if_neg (not_lt.mpr hp.le), if_neg hp.ne', ← EReal.coe_mul]
  unfold bnK shiftK bn
  rw [hsc, opK_eq h, ht, hmK, hm, hv, hE, hg, ← EReal.coe_add, Ideal.sqrt_coe, if_neg (not_lt.mpr hp.le), Ideal.div_coe hs, ← EReal.coe_sub]
  simp only [← EReal.coe_mul]
  rw [sub_eq_add_neg, add_comm (I.be n o), ← add_assoc, ← EReal.coe_neg, ← EReal.coe_add]
  refine congrArg (fun q : ℝ => (q : EReal) + I.be n o) ?_
  field_simp
  ring

/-- The kernel's result is the layer's. -/
theorem out_eq (n : Fin 5) (b : Fin 512) (l : Fin 200) (o : Fin 7) : outK I n b l o = out I n b l o := by
  unfold outK out
  refine congrArg (fun T => elu (conv I T n l o)) ?_
  funext l o
  exact bn_eq h n b l o

end Cert.RealVal
end
-- ==== Proof.Pre.lean ====
/- What the precondition says of the arguments: real numbers, and the logarithms of the state's numbers. -/
module

public import proofs.«01_k».proof.Defs
public import proofs.«01_k».proof.Proof.RealVal

@[expose] public section

set_option maxRecDepth 16384

noncomputable section

namespace Cert.Pre

open Idealize.ShloMosaic Idealize.ShloMosaic.Tactic Cert.Pre_inputs Cert.RealVal

/-- A value whose absolute value is below the top is a real number. -/
theorem of_abs_lt {x : EReal} (h : max x (-x) < ⊤) : IsR x := by
  induction x using EReal.rec with
  | bot => simp at h
  | top => simp at h
  | coe r => exact ⟨r, rfl⟩

/-- The infinite constant. -/
theorem inf_word : Ideal.ofBits .f32 0x7F800000#32 = ⊤ := by
  simp [Ideal.ofBits, Ideal.ieee]

/-- The finiteness test of an array, read at an index. -/
theorem finite {s : Shape} (hb : S_.BroadcastsInDim s ![]) (a : FVec Ideal s .f32)
    (h : cmpf .olt (Host.absf a) (broadcastInDim s ![] hb (constant (F := Ideal) S_ .f32 0x7F800000#32)) = fun _ => 1#1) (i : s.Idx) : IsR (a i) := by
  have e := congrFun h i
  pointwise at e
  have q : max (a i) (-(a i)) < Ideal.ofBits .f32 0x7F800000#32 := by
    by_contra hn
    rw [show (FloatOps.absf (a i) : Ideal .f32) = max (a i) (-(a i)) from rfl, decide_eq_false hn] at e
    exact absurd e (by decide)
  rw [inf_word] at q
  exact of_abs_lt q

/-- The test of the state matrix, read at an index. -/
theorem logs (hb : S_.BroadcastsInDim S5x140x32 ![]) (a : FVec Ideal S5x140x32 .f32)
    (h : cmpf .oeq a (Host.log (sitofp .f32 (addi (iotaInDim S5x140x32 32 2) (broadcastInDim S5x140x32 ![] hb (constantI S_ 32 1#32))))) = fun _ => 1#1)
    (n : Fin 5) (d : Fin 140) (s : Fin 32) : a (ix3 n d s) = Ideal.log ((((s.val + 1 : ℕ) : ℝ)) : EReal) := by
  have e := congrFun h (ix3 n d s)
  pointwise at e
  have w : ∀ s : Fin 32, (IntOp.addi (BitVec.ofNat 32 s.val) 1#32).toInt = ((s.val + 1 : ℕ) : ℤ) := by decide
  have v : (FloatOps.sitofp .f32 (IntOp.addi (BitVec.ofNat 32 s.val) 1#32) : Ideal .f32) = ((((s.val + 1 : ℕ) : ℝ)) : EReal) := by
    show ((((IntOp.addi (BitVec.ofNat 32 s.val) 1#32).toInt : ℤ) : ℝ) : EReal) = _
    rw [w]
    push_cast
    rfl
  by_contra hn
  rw [v, decide_eq_false hn] at e
  exact absurd e (by decide)

end Cert.Pre
end
-- ==== Proof.RefInit.lean ====
/- The reference before its scan: every array the scan reads, as the layer's functions. -/
module

public import proofs.«01_k».proof.Proof.Gen.ReferenceIdeal.Step
public import proofs.«01_k».proof.Proof.Spec

@[expose] public section

set_option maxRecDepth 16384

noncomputable section

namespace Cert.ReferenceIdeal.Init

open Idealize.ShloMosaic Idealize.ShloMosaic.Tactic Cert.ReferenceIdeal Cert.ReferenceIdeal.Step Cert.Spec

variable (a0 : FVec Ideal S512x1000x7 .f32) (a1 : FVec Ideal S5x280x7 .f32) (a2 : FVec Ideal S5x140x1x3 .f32) (a3 : FVec Ideal S5x140 .f32) (a4 : FVec Ideal S5x65x140 .f32)
  (a5 : FVec Ideal S5x140x1 .f32) (a6 : FVec Ideal S5x140 .f32) (a7 : FVec Ideal S5x140x32 .f32) (a8 : FVec Ideal S5x140 .f32) (a9 : FVec Ideal S5x7x140 .f32)
  (a10 a11 : FVec Ideal S5x7 .f32) (a12 : FVec Ideal S5x7x7x3 .f32) (a13 : FVec Ideal S5x7 .f32)

/-- The arguments' arrays as the layer's inputs. -/
def input : In where
  X b t k := a0 (ix3 b t k)
  W n e k := a1 (ix3 n e k)
  cw n d k := a2 (ix4 n d 0 k)
  cb n d := a3 (ix2 n d)
  xp n e d := a4 (ix3 n e d)
  dw n d := a5 (ix3 n d 0)
  db n d := a6 (ix2 n d)
  al n d s := a7 (ix3 n d s)
  dp n d := a8 (ix2 n d)
  ow n o d := a9 (ix3 n o d)
  g n o := a10 (ix2 n o)
  be n o := a11 (ix2 n o)
  cv n o i k := a12 (ix4 n o i k)
  cc n o := a13 (ix2 n o)

local notation "II" => input a0 a1 a2 a3 a4 a5 a6 a7 a8 a9 a10 a11 a12 a13

/-- The input projection. -/
theorem v2 (n : Fin 5) (b : Fin 512) (l : Fin 200) (e : Fin 280) :
    A_main_v2 (F := Ideal) a0 a1 a2 a3 a4 a5 a6 a7 (ix4 n b l e) = xz II n b l e := by
  pointwise [A_main_v2, A_main_v1, A_main_v0]
  rfl

/-- The convolution. -/
theorem v30 (n : Fin 5) (b : Fin 512) (l : Fin 200) (d : Fin 140) :
    A_main_v30 (F := Ideal) a0 a1 a2 a3 a4 a5 a6 a7 (ix4 n b l d) = xc II n b l d := by
  pointwise [A_main_v30, A_main_v29, A_main_v28, A_main_v27, A_main_v26, A_main_v25, A_main_v24, A_main_v23, A_main_v22, A_main_v21, A_main_v20, A_main_v19, A_main_v18,
    A_main_v17, A_main_v16, A_main_v15, A_main_v14, A_main_v13, A_main_v11, A_main_v10, A_main_v9, A_main_v8, A_main_v7, A_main_v6, A_main_v5, A_main_v3, K_main_v12, K_main_cst, K_main_call0_v0, K_main_c]
  have z : (FloatOps.sitofp FTy.f32 0#32 : Ideal .f32) = (0 : EReal) := by
    show ((((0#32 : BitVec 32).toInt : ℝ)) : EReal) = 0
    norm_num
  simp only [v2 a0 a1 a2 a3 a4 a5 a6 a7 a8 a9 a10 a11 a12 a13, z]
  unfold xc
  have e0 : (if h : 2 ≤ l.val ∧ l.val - 2 < 200 then xz II n b ⟨l.val - 2, by omega⟩ ⟨d.val, by omega⟩ else 0)
      = (if h : l.val < 2 then 0 else xz II n b ⟨l.val - 2, by omega⟩ ⟨d.val, by omega⟩ : EReal) := by
    by_cases h : l.val < 2
    · rw [dif_pos h, dif_neg (by omega)]
    · rw [dif_neg h, dif_pos (by omega)]
  have e1 : (if h : 2 ≤ 1 + l.val ∧ 1 + l.val - 2 < 200 then xz II n b ⟨1 + l.val - 2, by omega⟩ ⟨d.val, by omega⟩ else 0)
      = (if h : l.val < 1 then 0 else xz II n b ⟨l.val - 1, by omega⟩ ⟨d.val, by omega⟩ : EReal) := by
    by_cases h : l.val < 1
    · rw [dif_pos h, dif_neg (by omega)]
    · rw [dif_neg h, dif_pos (by omega)]
      exact congrArg (fun q => xz II n b q _) (Fin.ext (show 1 + l.val - 2 = l.val - 1 by omega))
  rw [e0, e1]
  show _ + _ + _ + _ = xz II n b l ⟨d.val, by omega⟩ * a2 (ix4 n d 0 2)
    + (if h : l.val < 1 then 0 else xz II n b ⟨l.val - 1, by omega⟩ ⟨d.val, by omega⟩) * a2 (ix4 n d 0 1)
    + (if h : l.val < 2 then 0 else xz II n b ⟨l.val - 2, by omega⟩ ⟨d.val, by omega⟩) * a2 (ix4 n d 0 0) + a3 (ix2 n d)
  generalize xz II n b l ⟨d.val, by omega⟩ * a2 (ix4 n d 0 2) = p
  generalize (if h : l.val < 1 then 0 else xz II n b ⟨l.val - 1, by omega⟩ ⟨d.val, by omega⟩ : EReal) * a2 (ix4 n d 0 1) = q
  generalize (if h : l.val < 2 then 0 else xz II n b ⟨l.val - 2, by omega⟩ ⟨d.val, by omega⟩ : EReal) * a2 (ix4 n d 0 0) = r
  refine congrArg (fun x : EReal => x + a3 (ix2 n d)) ?_
  ac_rfl

/-- The scan's input. -/
theorem v31 (n : Fin 5) (b : Fin 512) (l : Fin 200) (d : Fin 140) :
    A_main_v31 (F := Ideal) a0 a1 a2 a3 a4 a5 a6 a7 (ix4 n b l d) = xi II n b l d := by
  pointwise [A_main_v31, A_main_call1_v5, A_main_call1_v3, A_main_call1_v1, A_main_call1_v0, K_main_call1_v2, K_main_call1_cst, K_main_call1_cst_0, K_main_call1_v4]
  rw [v30 a0 a1 a2 a3 a4 a5 a6 a7 a8 a9 a10 a11 a12 a13]
  rfl

/-- The projection to step size and matrices. -/
theorem v32 (n : Fin 5) (b : Fin 512) (l : Fin 200) (e : Fin 65) :
    A_main_v32 (F := Ideal) a0 a1 a2 a3 a4 a5 a6 a7 (ix4 n b l e) = xd II n b l e := by
  pointwise [A_main_v32]
  simp only [v31 a0 a1 a2 a3 a4 a5 a6 a7 a8 a9 a10 a11 a12 a13]
  rfl

/-- The step size. -/
theorem v40 (n : Fin 5) (b : Fin 512) (l : Fin 200) (d : Fin 140) :
    A_main_v40 (F := Ideal) a0 a1 a2 a3 a4 a5 a6 a7 (ix4 n b l d) = delta II n b l d := by
  pointwise [A_main_v40, A_main_call2_v11,  A_main_call2_v10,  A_main_call2_v9,  A_main_call2_v8,  A_main_call2_v7,  A_main_call2_v6,  A_main_call2_v4,  A_main_call2_v3,  A_main_call2_v1, K_main_call2_cst,
    K_main_call2_v0, K_main_call2_v2, K_main_call2_v5, A_main_v39, A_main_v38, A_main_v37, A_main_v36, A_main_v33]
  rw [if_neg (fun h => h rfl)]
  simp only [v32 a0 a1 a2 a3 a4 a5 a6 a7 a8 a9 a10 a11 a12 a13, Fin.sum_univ_one]
  rfl

/-- The step size by time. -/
theorem v50 (l : Fin 200) (n : Fin 5) (b : Fin 512) (d : Fin 140) :
    A_main_v50 (F := Ideal) a0 a1 a2 a3 a4 a5 a6 a7 (ix4 l n b d) = delta II n b l d := by
  pointwise [A_main_v50, A_main_v44]
  exact v40 a0 a1 a2 a3 a4 a5 a6 a7 a8 a9 a10 a11 a12 a13 n b l d

/-- The scan's input matrix by time. -/
theorem v51 (l : Fin 200) (n : Fin 5) (b : Fin 512) (s : Fin 32) :
    A_main_v51 (F := Ideal) a0 a1 a2 a3 a4 a5 a6 a7 (ix4 l n b s) = bm II n b l s := by
  pointwise [A_main_v51, A_main_v45, A_main_v34]
  exact v32 a0 a1 a2 a3 a4 a5 a6 a7 a8 a9 a10 a11 a12 a13 n b l _

/-- The scan's output matrix by time. -/
theorem v52 (l : Fin 200) (n : Fin 5) (b : Fin 512) (s : Fin 32) :
    A_main_v52 (F := Ideal) a0 a1 a2 a3 a4 a5 a6 a7 (ix4 l n b s) = cm II n b l s := by
  pointwise [A_main_v52, A_main_v46, A_main_v35]
  exact v32 a0 a1 a2 a3 a4 a5 a6 a7 a8 a9 a10 a11 a12 a13 n b l _

/-- The scan's input by time. -/
theorem v53 (l : Fin 200) (n : Fin 5) (b : Fin 512) (d : Fin 140) :
    A_main_v53 (F := Ideal) a0 a1 a2 a3 a4 a5 a6 a7 (ix4 l n b d) = xi II n b l d := by
  pointwise [A_main_v53, A_main_v47]
  exact v31 a0 a1 a2 a3 a4 a5 a6 a7 a8 a9 a10 a11 a12 a13 n b l d

/-- The gate's argument by time. -/
theorem v54 (l : Fin 200) (n : Fin 5) (b : Fin 512) (d : Fin 140) :
    A_main_v54 (F := Ideal) a0 a1 a2 a3 a4 a5 a6 a7 (ix4 l n b d) = xz II n b l ⟨140 + d.val, by omega⟩ := by
  pointwise [A_main_v54, A_main_v48, A_main_v4]
  exact v2 a0 a1 a2 a3 a4 a5 a6 a7 a8 a9 a10 a11 a12 a13 n b l _

/-- The decay's exponent. -/
theorem v42 (n : Fin 5) (d : Fin 140) (s : Fin 32) :
    A_main_v42 (F := Ideal) a0 a1 a2 a3 a4 a5 a6 a7 (ix3 n d s) = (-(Ideal.exp (a7 (ix3 n d s))) : EReal) := by
  pointwise [A_main_v42, A_main_v41]

end Cert.ReferenceIdeal.Init
end
-- ==== Proof.RefScan.lean ====
/- The reference's scan: the states and the gated outputs after every trip. -/
module

public import proofs.«01_k».proof.Proof.RefInit

@[expose] public section

set_option maxRecDepth 16384

noncomputable section

namespace Cert.ReferenceIdeal.Scan

open Idealize.ShloMosaic Idealize.ShloMosaic.Tactic Cert.ReferenceIdeal Cert.ReferenceIdeal.Step Cert.Spec

/-- The start of a trip's slice. -/
abbrev start (j : ℕ) : Fin 4 → Int := fun k => BitVec.toInt
  ((![(constantI S_ 32 (BitVec.ofNat 32 j) : S_.Idx → BitVec 32), constantI S_ 32 0#32, constantI S_ 32 0#32, constantI S_ 32 0#32] : Fin 4 → S_.Idx → BitVec 32) k (Shape.Idx.first Gen.h_S_))

/-- A slice starts at its trip's number in time. -/
theorem start_zero (j : ℕ) (hj : j < 200) : start j 0 = j := by
  show BitVec.toInt (BitVec.ofNat 32 j) = j
  rw [BitVec.toInt_eq_toNat_of_lt (by rw [BitVec.toNat_ofNat]; omega), BitVec.toNat_ofNat, Nat.mod_eq_of_lt (by omega)]

variable (s : State Ideal) (j : ℕ) (hj : j < 200)

include hj in
/-- A slice of one time step at trip `j` starts at `j` in time and at zero elsewhere. -/
theorem clamp (w : ℕ) :
    Host.clampedStart ⟨4, ![200, 5, 512, w]⟩ ⟨4, ![1, 5, 512, w]⟩ rfl (start j) 0 = j
    ∧ Host.clampedStart ⟨4, ![200, 5, 512, w]⟩ ⟨4, ![1, 5, 512, w]⟩ rfl (start j) 1 = 0
    ∧ Host.clampedStart ⟨4, ![200, 5, 512, w]⟩ ⟨4, ![1, 5, 512, w]⟩ rfl (start j) 2 = 0
    ∧ Host.clampedStart ⟨4, ![200, 5, 512, w]⟩ ⟨4, ![1, 5, 512, w]⟩ rfl (start j) 3 = 0 :=
  ⟨Host.clampedStart_of_le (s := ⟨4, ![200, 5, 512, w]⟩) (t := ⟨4, ![1, 5, 512, w]⟩) rfl (start j) 0 j (start_zero j hj) (show j + 1 ≤ 200 by omega),
    Host.clampedStart_of_le (s := ⟨4, ![200, 5, 512, w]⟩) (t := ⟨4, ![1, 5, 512, w]⟩) rfl (start j) 1 0 rfl (show 0 + 5 ≤ 5 by omega),
    Host.clampedStart_of_le (s := ⟨4, ![200, 5, 512, w]⟩) (t := ⟨4, ![1, 5, 512, w]⟩) rfl (start j) 2 0 rfl (show 0 + 512 ≤ 512 by omega),
    Host.clampedStart_of_le (s := ⟨4, ![200, 5, 512, w]⟩) (t := ⟨4, ![1, 5, 512, w]⟩) rfl (start j) 3 0 rfl (Nat.le_of_eq (Nat.zero_add w))⟩

include hj

/-- The trip's row of the step sizes. -/
theorem b4_at (n : Fin 5) (b : Fin 512) (d : Fin 140) : b4 (F := Ideal) j s (ix3 n b d) = s.main_v56_0 (ix4 ⟨j, hj⟩ n b d) := by
  obtain ⟨e0, e1, e2, e3⟩ := clamp j hj 140
  pointwise [b4, b3, b2, b1, b0]
  simp only [e0, e1, e2, e3, Nat.zero_add]

/-- The trip's row of the input matrix. -/
theorem b9_at (n : Fin 5) (b : Fin 512) (d : Fin 32) : b9 (F := Ideal) j s (ix3 n b d) = s.main_v56_1 (ix4 ⟨j, hj⟩ n b d) := by
  obtain ⟨e0, e1, e2, e3⟩ := clamp j hj 32
  pointwise [b9, b8, b7, b6, b5]
  simp only [e0, e1, e2, e3, Nat.zero_add]

/-- The trip's row of the output matrix. -/
theorem b14_at (n : Fin 5) (b : Fin 512) (d : Fin 32) : b14 (F := Ideal) j s (ix3 n b d) = s.main_v56_2 (ix4 ⟨j, hj⟩ n b d) := by
  obtain ⟨e0, e1, e2, e3⟩ := clamp j hj 32
  pointwise [b14, b13, b12, b11, b10]
  simp only [e0, e1, e2, e3, Nat.zero_add]

/-- The trip's row of the scan's input. -/
theorem b19_at (n : Fin 5) (b : Fin 512) (d : Fin 140) : b19 (F := Ideal) j s (ix3 n b d) = s.main_v56_3 (ix4 ⟨j, hj⟩ n b d) := by
  obtain ⟨e0, e1, e2, e3⟩ := clamp j hj 140
  pointwise [b19, b18, b17, b16, b15]
  simp only [e0, e1, e2, e3, Nat.zero_add]

/-- The trip's row of the gate's argument. -/
theorem b24_at (n : Fin 5) (b : Fin 512) (d : Fin 140) : b24 (F := Ideal) j s (ix3 n b d) = s.main_v56_4 (ix4 ⟨j, hj⟩ n b d) := by
  obtain ⟨e0, e1, e2, e3⟩ := clamp j hj 140
  pointwise [b24, b23, b22, b21, b20]
  simp only [e0, e1, e2, e3, Nat.zero_add]

/-- The outputs after a trip: its own row is the trip's, the others stay. -/
theorem b60_at (l : Fin 200) (n : Fin 5) (b : Fin 512) (d : Fin 140) : b60 (F := Ideal) j s (ix4 l n b d)
    = if l.val = j then b55 (F := Ideal) j s (ix3 n b d) else s.main_v56_9 (ix4 l n b d) := by
  obtain ⟨e0, e1, e2, e3⟩ := clamp j hj 140
  pointwise [b60, b59, b58, b57, b56]
  simp only [e0, e1, e2, e3, Nat.zero_add, Nat.sub_zero]
  by_cases h : l.val = j
  · rw [if_pos h, dif_pos (by omega)]
  · rw [if_neg h, dif_neg (by omega)]

/-- The states after a trip. -/
theorem b40_at (n : Fin 5) (b : Fin 512) (d : Fin 140) (e : Fin 32) : b40 (F := Ideal) j s (ix4 n b d e)
    = (s.main_v56_8 (ix4 n b d e) * Ideal.exp (s.main_v56_0 (ix4 ⟨j, hj⟩ n b d) * s.main_v56_5 (ix3 n d e))
      + s.main_v56_0 (ix4 ⟨j, hj⟩ n b d) * s.main_v56_1 (ix4 ⟨j, hj⟩ n b e) * s.main_v56_3 (ix4 ⟨j, hj⟩ n b d) : EReal) := by
  pointwise [b40, b39, b38, b37, b36, b35, b34, b33, b32, b31, b30, b29, b28, b27, b26, b25]
  rw [b4_at s j hj, b9_at s j hj, b19_at s j hj]

/-- A trip's gated output. -/
theorem b55_at (n : Fin 5) (b : Fin 512) (d : Fin 140) : b55 (F := Ideal) j s (ix3 n b d)
    = ((∑ e : Fin 32, b40 (F := Ideal) j s (ix4 n b d e) * s.main_v56_2 (ix4 ⟨j, hj⟩ n b e) + s.main_v56_6 (ix2 n d) * s.main_v56_3 (ix4 ⟨j, hj⟩ n b d))
      * silu (s.main_v56_4 (ix4 ⟨j, hj⟩ n b d)) : EReal) := by
  pointwise [b55, b54, b53, b52, b51, b50, b49, b48, b47, b46, b45, b44, b43, b42, b41]
  simp only [b14_at s j hj, b19_at s j hj, b24_at s j hj]
  rfl

omit hj

variable (a0 : FVec Ideal S512x1000x7 .f32) (a1 : FVec Ideal S5x280x7 .f32) (a2 : FVec Ideal S5x140x1x3 .f32) (a3 : FVec Ideal S5x140 .f32) (a4 : FVec Ideal S5x65x140 .f32)
  (a5 : FVec Ideal S5x140x1 .f32) (a6 : FVec Ideal S5x140 .f32) (a7 : FVec Ideal S5x140x32 .f32) (a8 : FVec Ideal S5x140 .f32) (a9 : FVec Ideal S5x7x140 .f32)
  (a10 a11 : FVec Ideal S5x7 .f32) (a12 : FVec Ideal S5x7x7x3 .f32) (a13 : FVec Ideal S5x7 .f32)

local notation "II" => Init.input a0 a1 a2 a3 a4 a5 a6 a7 a8 a9 a10 a11 a12 a13

variable (it : ℕ → State Ideal) (h0 : it 0 = init (F := Ideal) a8 a0 a1 a2 a3 a4 a5 a6 a7) (hs : ∀ t, it (t + 1) = step t (it t))
  (hexp : ∀ (n : Fin 5) (b : Fin 512) (l : Fin 200) (d : Fin 140) (s : Fin 32),
    Ideal.exp (delta (Init.input a0 a1 a2 a3 a4 a5 a6 a7 a8 a9 a10 a11 a12 a13) n b l d * -(Ideal.exp (a7 (ix3 n d s)))) = pwS (Ideal.exp (-(delta (Init.input a0 a1 a2 a3 a4 a5 a6 a7 a8 a9 a10 a11 a12 a13) n b l d))) s.val)

include h0 hs

/-- The arrays that the trips only read are the first trip's. -/
theorem fixed (t : ℕ) : (it t).main_v56_0 = A_main_v50 a0 a1 a2 a3 a4 a5 a6 a7 ∧ (it t).main_v56_1 = A_main_v51 a0 a1 a2 a3 a4 a5 a6 a7
    ∧ (it t).main_v56_2 = A_main_v52 a0 a1 a2 a3 a4 a5 a6 a7 ∧ (it t).main_v56_3 = A_main_v53 a0 a1 a2 a3 a4 a5 a6 a7
    ∧ (it t).main_v56_4 = A_main_v54 a0 a1 a2 a3 a4 a5 a6 a7 ∧ (it t).main_v56_5 = A_main_v42 a0 a1 a2 a3 a4 a5 a6 a7 ∧ (it t).main_v56_6 = a8 := by
  induction t with
  | zero =>
    rw [h0]
    exact ⟨rfl, rfl, rfl, rfl, rfl, rfl, rfl⟩
  | succ t ih =>
    rw [hs t]
    exact ih

include hexp

/-- The states before trip `t`. -/
theorem h_at (n : Fin 5) (b : Fin 512) (d : Fin 140) (e : Fin 32) : ∀ t ≤ 200, (it t).main_v56_8 (ix4 n b d e)
    = hK (ext fun l => Ideal.exp (-(delta II n b l d))) (ext fun l => delta II n b l d * xi II n b l d)
      (fun t s => ext (fun l => ext (bm II n b l) s) t) t e.val := by
  intro t
  induction t with
  | zero =>
    intro _
    rw [h0]
    show K_main_v49 (F := Ideal) (ix4 n b d e) = (0 : EReal)
    pointwise [K_main_v49, K_main_v43, K_main_cst_0]
  | succ t ih =>
    intro ht
    have hlt : t < 200 := by omega
    obtain ⟨f0, f1, f2, f3, f4, f5, f6⟩ := fixed a0 a1 a2 a3 a4 a5 a6 a7 a8 it h0 hs t
    rw [hs t, step_main_v56_8, b40_at (it t) t hlt, ih (by omega), f0, f1, f3, f5, Init.v50 a0 a1 a2 a3 a4 a5 a6 a7 a8 a9 a10 a11 a12 a13,
      Init.v51 a0 a1 a2 a3 a4 a5 a6 a7 a8 a9 a10 a11 a12 a13, Init.v53 a0 a1 a2 a3 a4 a5 a6 a7 a8 a9 a10 a11 a12 a13, Init.v42, hexp]
    show _ = hK _ _ _ t e.val * pwS (ext _ t) e.val + ext _ t * ext _ t
    rw [ext_of_lt _ t hlt, ext_of_lt _ t hlt, ext_of_lt _ t hlt, ext_val, mul_right_comm]

/-- The gated outputs before trip `t`: the rows of the trips before it are the scan's. -/
theorem ys_at (l : Fin 200) (n : Fin 5) (b : Fin 512) (d : Fin 140) : ∀ t ≤ 200, l.val < t → (it t).main_v56_9 (ix4 l n b d) = yg II n b l d := by
  intro t
  induction t with
  | zero => intro _ h; omega
  | succ t ih =>
    intro ht hl
    have hlt : t < 200 := by omega
    rw [hs t, step_main_v56_9, b60_at (it t) t hlt]
    by_cases h : l.val = t
    · subst h
      obtain ⟨f0, f1, f2, f3, f4, f5, f6⟩ := fixed a0 a1 a2 a3 a4 a5 a6 a7 a8 it h0 hs l.val
      rw [if_pos rfl, b55_at (it l.val) l.val hlt, f2, f3, f4, f6]
      simp only [Init.v52 a0 a1 a2 a3 a4 a5 a6 a7 a8 a9 a10 a11 a12 a13, Init.v53 a0 a1 a2 a3 a4 a5 a6 a7 a8 a9 a10 a11 a12 a13,
        Init.v54 a0 a1 a2 a3 a4 a5 a6 a7 a8 a9 a10 a11 a12 a13]
      unfold yg yK
      rw [ext_val, ext_val]
      refine congrArg₂ (fun x y : EReal => x * y) (congrArg₂ (fun x y : EReal => x + y) (Finset.sum_congr rfl fun e _ => ?_) rfl) rfl
      have := h_at a0 a1 a2 a3 a4 a5 a6 a7 a8 a9 a10 a11 a12 a13 it h0 hs hexp n b d e (l.val + 1) (by omega)
      rw [hs l.val, step_main_v56_8] at this
      rw [this]
      beta_reduce
      rw [ext_val, ext_val]
    · rw [if_neg h]
      exact ih (by omega) (by omega)

end Cert.ReferenceIdeal.Scan
end
-- ==== Proof.Reduce13.lean ====
/- A host's sum over the second and fourth axes of an array of rank four. -/
module

public import Idealize.ShloMosaic.Lib.Pointwise

@[expose] public section

namespace Cert.Reduce13

open Idealize.ShloMosaic

variable {n0 n1 n2 n3 : ℕ}

/-- The indices that keep the first and third coordinate. -/
theorem kept (h : (⟨4, ![n0, n1, n2, n3]⟩ : Shape).ReducesTo [1, 3] ⟨2, ![n0, n2]⟩) (a : Fin n0) (c : Fin n2) (i : (⟨4, ![n0, n1, n2, n3]⟩ : Shape).Idx) :
    h.drop i = ix2 a c ↔ ∃ k : Fin n1 × Fin n3, ix4 a k.1 c k.2 = i := by
  refine ⟨fun e => ⟨(i 1, i 3), funext fun x => ?_⟩, ?_⟩
  · match x with
    | ⟨0, _⟩ => exact Fin.ext (congrArg Fin.val (congrFun e 0)).symm
    | ⟨1, _⟩ => rfl
    | ⟨2, _⟩ => exact Fin.ext (congrArg Fin.val (congrFun e 1)).symm
    | ⟨3, _⟩ => rfl
  · rintro ⟨k, rfl⟩
    funext x
    match x with
    | ⟨0, _⟩ => rfl
    | ⟨1, _⟩ => rfl

/-- The sum at an index: the initial value plus the sum over both axes. -/
theorem hostReduceAdd_at (h : (⟨4, ![n0, n1, n2, n3]⟩ : Shape).ReducesTo [1, 3] ⟨2, ![n0, n2]⟩) (v : (⟨4, ![n0, n1, n2, n3]⟩ : Shape).Idx → EReal) (init : EReal) (a : Fin n0) (c : Fin n2) :
    Ideal.hostReduceAdd h v init (ix2 a c) = init + ∑ k : Fin n1, ∑ l : Fin n3, v (ix4 a k c l) := by
  refine congrArg (init + ·) ?_
  refine (Finset.sum_filter_eq_sum_of_fiber _ (fun k : Fin n1 × Fin n3 => ix4 a k.1 c k.2) (fun _ _ e => Prod.ext (congrFun e 1) (congrFun e 3))
    (kept h a c) v).trans ?_
  exact Fintype.sum_prod_type _

end Cert.Reduce13
end
-- ==== Proof.RefPost.lean ====
/- The reference after its scan: projection, normalisation, circular convolution and the unit, as the layer's functions. -/
module

public import proofs.«01_k».proof.Proof.RefScan
public import proofs.«01_k».proof.Proof.Reduce13

@[expose] public section

set_option maxRecDepth 16384

noncomputable section

namespace Cert.ReferenceIdeal.Post

open Idealize.ShloMosaic Idealize.ShloMosaic.Tactic Cert.ReferenceIdeal Cert.ReferenceIdeal.Step Cert.Spec Cert.ReferenceIdeal.Gen

/-- The projected outputs, channel before time. -/
def tT (ys : FVec Ideal S200x5x512x140 .f32) (a9 : FVec Ideal S5x7x140 .f32) : FVec Ideal S5x512x7x200 .f32 :=
  transpose S5x512x7x200 [0, 1, 3, 2] (Host.dotGeneral dot_S5x512x200x140_S5x7x140_S5x512x200x7_3_2_12_1_0_0 none
    (transpose S5x512x200x140 [1, 2, 0, 3] ys transposes_S200x5x512x140_S5x512x200x140_1_2_0_3) a9) transposes_S5x512x200x7_S5x512x7x200_0_1_3_2

/-- The channels' means, under every row. -/
def tMu (T : FVec Ideal S5x512x7x200 .f32) : FVec Ideal S5x512x7x200 .f32 :=
  broadcastInDim S5x512x7x200 ![0, 1, 2, 3] bcast_S5x1x7x1_S5x512x7x200_0_1_2_3 (Host.divf (broadcastInDim S5x1x7x1 ![0, 2] bcast_S5x7_S5x1x7x1_0_2
    (Host.reduceAdd T (constant S_ .f32 0x00000000#32) reducesTo_S5x512x7x200_S5x7_d1_3 h_S_)) (broadcastInDim S5x1x7x1 ![] bcast_S_S5x1x7x1 (constant S_ .f32 0x47C80000#32)))

/-- The channels' deviations, under every row. -/
def tSd (T M : FVec Ideal S5x512x7x200 .f32) : FVec Ideal S5x512x7x200 .f32 :=
  broadcastInDim S5x512x7x200 ![0, 1, 2, 3] bcast_S5x1x7x1_S5x512x7x200_0_1_2_3 (Host.sqrt (addf (Host.divf (broadcastInDim S5x1x7x1 ![0, 2] bcast_S5x7_S5x1x7x1_0_2
    (Host.reduceAdd (mulf (subf T M) (subf T M)) (constant S_ .f32 0x00000000#32) reducesTo_S5x512x7x200_S5x7_d1_3 h_S_)) (broadcastInDim S5x1x7x1 ![] bcast_S_S5x1x7x1 (constant S_ .f32 0x47C80000#32)))
    (broadcastInDim S5x1x7x1 ![] bcast_S_S5x1x7x1 (constant S_ .f32 0x3727C5AC#32))))

/-- The normalised channels. -/
def tBn (T M D : FVec Ideal S5x512x7x200 .f32) (a10 a11 : FVec Ideal S5x7 .f32) : FVec Ideal S5x512x7x200 .f32 :=
  addf (mulf (Host.divf (subf T M) D) (broadcastInDim S5x512x7x200 ![0, 1, 2, 3] bcast_S5x1x7x1_S5x512x7x200_0_1_2_3 (broadcastInDim S5x1x7x1 ![0, 2] bcast_S5x7_S5x1x7x1_0_2 a10)))
    (broadcastInDim S5x512x7x200 ![0, 1, 2, 3] bcast_S5x1x7x1_S5x512x7x200_0_1_2_3 (broadcastInDim S5x1x7x1 ![0, 2] bcast_S5x7_S5x1x7x1_0_2 a11))

/-- A sequence with its last step before it and its first step after it. -/
def tPad (N : FVec Ideal S5x512x7x200 .f32) : FVec Ideal S5x512x7x202 .f32 :=
  concatenate S5x512x7x202 3 [⟨S5x512x7x1, ((extractStridedSlice S5x512x7x1 ![0, 0, 0, 199] N slices_S5x512x7x200_S5x512x7x1_0_0_0_199) : (⟨S5x512x7x1, .f32⟩ : BufTy).Contents (Elt Ideal))⟩,
    ⟨S5x512x7x200, (N : (⟨S5x512x7x200, .f32⟩ : BufTy).Contents (Elt Ideal))⟩,
    ⟨S5x512x7x1, ((extractStridedSlice S5x512x7x1 ![0, 0, 0, 0] N slices_S5x512x7x200_S5x512x7x1_0_0_0_0) : (⟨S5x512x7x1, .f32⟩ : BufTy).Contents (Elt Ideal))⟩]
    concatenates_S5x512x7x1_S5x512x7x200_S5x512x7x1_S5x512x7x202_d3

/-- The convolution of the continued sequence. -/
def tConv (P : FVec Ideal S5x512x7x202 .f32) (a12 : FVec Ideal S5x7x7x3 .f32) (a13 : FVec Ideal S5x7 .f32) : FVec Ideal S5x512x7x200 .f32 :=
  addf (addf (addf (addf (broadcastInDim S5x512x7x200 ![] bcast_S_S5x512x7x200 (constant S_ .f32 0x00000000#32))
    (transpose S5x512x7x200 [0, 2, 1, 3] (Host.dotGeneral dot_S5x7x7_S5x512x7x200_S5x7x512x200_2_2_1_13_0_0 none (shapeCast S5x7x7 (extractStridedSlice S5x7x7x1 ![0, 0, 0, 0] a12 slices_S5x7x7x3_S5x7x7x1_0_0_0_0) shapeCasts_S5x7x7x1_S5x7x7)
      (extractStridedSlice S5x512x7x200 ![0, 0, 0, 0] P slices_S5x512x7x202_S5x512x7x200_0_0_0_0)) transposes_S5x7x512x200_S5x512x7x200_0_2_1_3))
    (transpose S5x512x7x200 [0, 2, 1, 3] (Host.dotGeneral dot_S5x7x7_S5x512x7x200_S5x7x512x200_2_2_1_13_0_0 none (shapeCast S5x7x7 (extractStridedSlice S5x7x7x1 ![0, 0, 0, 1] a12 slices_S5x7x7x3_S5x7x7x1_0_0_0_1) shapeCasts_S5x7x7x1_S5x7x7)
      (extractStridedSlice S5x512x7x200 ![0, 0, 0, 1] P slices_S5x512x7x202_S5x512x7x200_0_0_0_1)) transposes_S5x7x512x200_S5x512x7x200_0_2_1_3))
    (transpose S5x512x7x200 [0, 2, 1, 3] (Host.dotGeneral dot_S5x7x7_S5x512x7x200_S5x7x512x200_2_2_1_13_0_0 none (shapeCast S5x7x7 (extractStridedSlice S5x7x7x1 ![0, 0, 0, 2] a12 slices_S5x7x7x3_S5x7x7x1_0_0_0_2) shapeCasts_S5x7x7x1_S5x7x7)
      (extractStridedSlice S5x512x7x200 ![0, 0, 0, 2] P slices_S5x512x7x202_S5x512x7x200_0_0_0_2)) transposes_S5x7x512x200_S5x512x7x200_0_2_1_3))
    (broadcastInDim S5x512x7x200 ![0, 1, 2, 3] bcast_S5x1x7x1_S5x512x7x200_0_1_2_3 (broadcastInDim S5x1x7x1 ![0, 2] bcast_S5x7_S5x1x7x1_0_2 a13))

/-- The unit, and time before the channel again. -/
def tElu (O : FVec Ideal S5x512x7x200 .f32) : FVec Ideal S5x512x200x7 .f32 :=
  transpose S5x512x200x7 [0, 1, 3, 2] (select (cmpf .ogt O (broadcastInDim S5x512x7x200 ![] bcast_S_S5x512x7x200 (constant S_ .f32 0x00000000#32))) O (Host.expm1 O)) transposes_S5x512x7x200_S5x512x200x7_0_1_3_2

/-- The result in these parts. -/
theorem result_eq (s : State Ideal) (a9 : FVec Ideal S5x7x140 .f32) (a10 a11 : FVec Ideal S5x7 .f32) (a12 : FVec Ideal S5x7x7x3 .f32) (a13 : FVec Ideal S5x7 .f32) :
    R_main_v113 (F := Ideal) s a9 a10 a11 a12 a13
      = tElu (tConv (tPad (tBn (tT s.main_v56_9 a9) (tMu (tT s.main_v56_9 a9)) (tSd (tT s.main_v56_9 a9) (tMu (tT s.main_v56_9 a9))) a10 a11)) a12 a13) := by
  unfold R_main_v113
  rfl

variable (I : In) (ys : FVec Ideal S200x5x512x140 .f32) (a9 : FVec Ideal S5x7x140 .f32) (a10 a11 : FVec Ideal S5x7 .f32) (a12 : FVec Ideal S5x7x7x3 .f32) (a13 : FVec Ideal S5x7 .f32)
  (hys : ∀ (l : Fin 200) (n : Fin 5) (b : Fin 512) (d : Fin 140), ys (ix4 l n b d) = yg I n b l d)
  (h9 : ∀ (n : Fin 5) (o : Fin 7) (d : Fin 140), a9 (ix3 n o d) = I.ow n o d)
  (h10 : ∀ (n : Fin 5) (o : Fin 7), a10 (ix2 n o) = I.g n o) (h11 : ∀ (n : Fin 5) (o : Fin 7), a11 (ix2 n o) = I.be n o)
  (h12 : ∀ (n : Fin 5) (o i : Fin 7) (k : Fin 3), a12 (ix4 n o i k) = I.cv n o i k) (h13 : ∀ (n : Fin 5) (o : Fin 7), a13 (ix2 n o) = I.cc n o)

include hys h9

/-- The projected outputs. -/
theorem tT_at (n : Fin 5) (b : Fin 512) (o : Fin 7) (l : Fin 200) : tT ys a9 (ix4 n b o l) = op I n b l o := by
  pointwise [tT]
  simp only [hys, h9]
  rfl

omit hys h9

/-- The means. -/
theorem tMu_at (T : FVec Ideal S5x512x7x200 .f32) (hT : ∀ (n : Fin 5) (b : Fin 512) (o : Fin 7) (l : Fin 200), T (ix4 n b o l) = op I n b l o)
    (n : Fin 5) (b : Fin 512) (o : Fin 7) (l : Fin 200) : tMu T (ix4 n b o l) = mu I n o := by
  pointwise [tMu]
  rw [Reduce13.hostReduceAdd_at]
  simp only [hT, zero_add]
  rfl

/-- The deviations. -/
theorem tSd_at (T M : FVec Ideal S5x512x7x200 .f32) (hT : ∀ (n : Fin 5) (b : Fin 512) (o : Fin 7) (l : Fin 200), T (ix4 n b o l) = op I n b l o)
    (hM : ∀ (n : Fin 5) (b : Fin 512) (o : Fin 7) (l : Fin 200), M (ix4 n b o l) = mu I n o)
    (n : Fin 5) (b : Fin 512) (o : Fin 7) (l : Fin 200) : tSd T M (ix4 n b o l) = Ideal.sqrt (var I n o + eps) := by
  pointwise [tSd]
  rw [Reduce13.hostReduceAdd_at]
  simp only [mulf_apply, subf_apply, hT, hM, zero_add]
  rfl

include h10 h11 in
/-- The normalised channels. -/
theorem tBn_at (T M D : FVec Ideal S5x512x7x200 .f32) (hT : ∀ (n : Fin 5) (b : Fin 512) (o : Fin 7) (l : Fin 200), T (ix4 n b o l) = op I n b l o)
    (hM : ∀ (n : Fin 5) (b : Fin 512) (o : Fin 7) (l : Fin 200), M (ix4 n b o l) = mu I n o)
    (hD : ∀ (n : Fin 5) (b : Fin 512) (o : Fin 7) (l : Fin 200), D (ix4 n b o l) = Ideal.sqrt (var I n o + eps))
    (n : Fin 5) (b : Fin 512) (o : Fin 7) (l : Fin 200) : tBn T M D a10 a11 (ix4 n b o l) = bn I n b l o := by
  pointwise [tBn]
  simp only [hT, hM, hD, h10, h11]
  rfl

/-- The continued sequence. -/
theorem tPad_at (N : FVec Ideal S5x512x7x200 .f32) (n : Fin 5) (b : Fin 512) (o : Fin 7) (l : Fin 202) :
    tPad N (ix4 n b o l) = N (ix4 n b o ⟨(l.val + 199) % 200, Nat.mod_lt _ (by decide)⟩) := by
  pointwise [tPad]
  by_cases h : l.val < 1
  · rw [dif_pos h]
    exact congrArg (fun q => N (ix4 n b o q)) (Fin.ext (show 199 + l.val = (l.val + 199) % 200 by omega))
  rw [dif_neg h]
  by_cases h' : l.val - 1 < 200
  · rw [dif_pos h']
    exact congrArg (fun q => N (ix4 n b o q)) (Fin.ext (show l.val - 1 = (l.val + 199) % 200 by omega))
  rw [dif_neg h']
  exact congrArg (fun q => N (ix4 n b o q)) (Fin.ext (show l.val - 1 - 200 = (l.val + 199) % 200 by omega))

include h12 h13 in
/-- The convolution. -/
theorem tConv_at (P : FVec Ideal S5x512x7x202 .f32) (n : Fin 5) (b : Fin 512) (o : Fin 7) (l : Fin 200)
    (hP : ∀ (i : Fin 7) (l : Fin 202), P (ix4 n b i l) = bn I n b ⟨(l.val + 199) % 200, Nat.mod_lt _ (by decide)⟩ i) :
    tConv P a12 a13 (ix4 n b o l) = conv I (bn I n b) n l o := by
  pointwise [tConv]
  simp only [hP, h12, h13]
  unfold conv
  refine congrArg (· + I.cc n o) (congrArg₂ (· + ·) (congrArg₂ (· + ·) ?_ ?_) ?_) <;> refine Finset.sum_congr rfl fun i _ => (mul_comm _ _).trans ?_
  · rfl
  · exact congrArg (fun q => bn I n b q i * I.cv n o i 1) (Fin.ext (show (1 + l.val + 199) % 200 = l.val by omega))
  · exact congrArg (fun q => bn I n b q i * I.cv n o i 2) (Fin.ext (show (2 + l.val + 199) % 200 = (l.val + 1) % 200 by omega))

/-- The unit. -/
theorem tElu_at (O : FVec Ideal S5x512x7x200 .f32) (n : Fin 5) (b : Fin 512) (o : Fin 7) (l : Fin 200) :
    tElu O (ix4 n b l o) = elu (O (ix4 n b o l)) := by
  pointwise [tElu]
  rfl

include hys h9 h10 h11 h12 h13 in
/-- The result at an index is the layer's, when the scan's outputs are. -/
theorem result_at (s : State Ideal) (hs : s.main_v56_9 = ys) (n : Fin 5) (b : Fin 512) (l : Fin 200) (o : Fin 7) :
    R_main_v113 (F := Ideal) s a9 a10 a11 a12 a13 (ix4 n b l o) = out I n b l o := by
  rw [result_eq, hs, tElu_at]
  have hT := tT_at I ys a9 hys h9
  have hM := tMu_at I _ hT
  refine congrArg elu (tConv_at I a12 a13 h12 h13 _ n b o l fun i l => (tPad_at _ n b i l).trans ?_)
  exact tBn_at I a10 a11 h10 h11 _ _ _ hT hM (tSd_at I _ _ hT hM) n b i _

end Cert.ReferenceIdeal.Post
end
-- ==== Proof.Region0.lean ====
/- The first call: the six arrays it leaves, over the arrays it finds. -/
module

public import proofs.«01_k».proof.Proof.Gen.KernelIdeal.Frame
public import proofs.«01_k».proof.Proof.Proj
public import Idealize.ShloMosaic.Lib.Pipeline.ValueKit

@[expose] public section

set_option maxRecDepth 16384

noncomputable section

namespace Cert.KernelIdeal.Region0

open Idealize.ShloMosaic Idealize.ShloMosaic.TcCoe Idealize.ShloMosaic.Tactic Cert.KernelIdeal Cert.KernelIdeal.Gen Cert.Spec Cert.KernelIdeal.Proj
open Idealize.SL Idealize.SL.Sem

/-- The block that the input's window takes at a grid point. -/
theorem idx0 : ∀ t : Fin cfg0.N, win0_0.index t = ![t.val / 64, 0, t.val % 64, 0] := (by decide +kernel : ∀ t : Fin grid0.N, _)
/-- The block that window 1 takes: the branch's whole weight. -/
theorem idx1 : ∀ t : Fin cfg0.N, win0_1.index t = ![t.val / 64, 0, 0] := (by decide +kernel : ∀ t : Fin grid0.N, _)
/-- The block that window 2 takes: the branch's whole weight. -/
theorem idx2 : ∀ t : Fin cfg0.N, win0_2.index t = ![t.val / 64, 0, 0] := idx1
/-- The block that window 3 takes: the branch's whole weight. -/
theorem idx3 : ∀ t : Fin cfg0.N, win0_3.index t = ![t.val / 64, 0, 0] := idx1
/-- The block that window 4 takes: the branch's whole weight. -/
theorem idx4 : ∀ t : Fin cfg0.N, win0_4.index t = ![t.val / 64, 0, 0] := idx1
/-- The block that window 5 takes: the branch's whole weight. -/
theorem idx5 : ∀ t : Fin cfg0.N, win0_5.index t = ![t.val / 64, 0, 0] := idx1
/-- The block that window 6 takes: the branch's whole weight. -/
theorem idx6 : ∀ t : Fin cfg0.N, win0_6.index t = ![t.val / 64, 0, 0] := idx1
/-- The block that window 7 takes: the branch's whole weight. -/
theorem idx7 : ∀ t : Fin cfg0.N, win0_7.index t = ![t.val / 64, 0, 0] := idx1
/-- The block that window 8 takes: the branch's whole weight. -/
theorem idx8 : ∀ t : Fin cfg0.N, win0_8.index t = ![t.val / 64, 0, 0] := idx1
/-- The block that window 9 takes: the branch's whole weight. -/
theorem idx9 : ∀ t : Fin cfg0.N, win0_9.index t = ![t.val / 64, 0, 0] := idx1
/-- The block that window 10 takes: the branch's rows of the point's batch block. -/
theorem idx10 : ∀ t : Fin cfg0.N, win0_10.index t = ![t.val / 64, 0, t.val % 64, 0] := idx0
/-- The block that window 11 takes: the branch's rows of the point's batch block. -/
theorem idx11 : ∀ t : Fin cfg0.N, win0_11.index t = ![t.val / 64, 0, t.val % 64, 0] := idx0
/-- The block that window 12 takes: the branch's rows of the point's batch block. -/
theorem idx12 : ∀ t : Fin cfg0.N, win0_12.index t = ![t.val / 64, 0, t.val % 64, 0] := idx0
/-- The block that window 13 takes: the branch's rows of the point's batch block. -/
theorem idx13 : ∀ t : Fin cfg0.N, win0_13.index t = ![t.val / 64, 0, t.val % 64, 0] := idx0
/-- The block that window 14 takes: the branch's rows of the point's batch block. -/
theorem idx14 : ∀ t : Fin cfg0.N, win0_14.index t = ![t.val / 64, 0, t.val % 64, 0] := idx0
/-- The block that window 15 takes: the branch's rows of the point's batch block. -/
theorem idx15 : ∀ t : Fin cfg0.N, win0_15.index t = ![t.val / 64, 0, t.val % 64, 0] := idx0

/-- The branch that a grid point works on. -/
def nOf (t : Fin cfg0.N) : Fin 5 := ⟨t.val / 64, by have h : t.val < 320 := t.isLt; omega⟩

/-- The batch row that a row of a grid point's block is. -/
def bOf (t : Fin cfg0.N) (b : Fin 8) : Fin 512 := ⟨8 * (t.val % 64) + b.val, by omega⟩

variable (V : (c : Dev nD) → (b : Ref sig .tc) → Buf (Elt Ideal) ((c : Thread nD τ).loc b)) (c : Dev nD)

/-- The arrays that the call finds hold the layer's inputs. -/
structure Entry (I : In) : Prop where
  x (n : Fin 5) (l : Fin 200) (b : Fin 512) (k : Fin 7) : (V c main_call0_v1 : FVec Ideal S5x200x512x7 .f32) (ix4 n l b k) = I.X b (row n l) k
  w (n : Fin 5) (k : Fin 7) (d : Fin 140) : (V c main_call0_v3 : FVec Ideal S5x7x140 .f32) (ix3 n k d) = I.W n (lo d) k
  z (n : Fin 5) (k : Fin 7) (d : Fin 140) : (V c main_call0_v5 : FVec Ideal S5x7x140 .f32) (ix3 n k d) = I.W n (hi d) k
  cw (n : Fin 5) (k : Fin 3) (d : Fin 140) : (V c main_call0_v7 : FVec Ideal S5x3x140 .f32) (ix3 n k d) = I.cw n d k
  cb (n : Fin 5) (d : Fin 140) : (V c main_call0_v8 : FVec Ideal S5x1x140 .f32) (ix3 n 0 d) = I.cb n d
  wd (n : Fin 5) (e d : Fin 140) : (V c main_call0_v20 : FVec Ideal S5x140x140 .f32) (ix3 n e d) = I.xp n 0 e * I.dw n d
  db (n : Fin 5) (d : Fin 140) : (V c main_call0_v21 : FVec Ideal S5x1x140 .f32) (ix3 n 0 d) = I.db n d
  bw (n : Fin 5) (d : Fin 140) (s : Fin 32) : (V c main_call0_v12 : FVec Ideal S5x140x32 .f32) (ix3 n d s) = I.xp n (bRow s) d
  cww (n : Fin 5) (d : Fin 140) (s : Fin 32) : (V c main_call0_v14 : FVec Ideal S5x140x32 .f32) (ix3 n d s) = I.xp n (cRow s) d
  dp (n : Fin 5) (d : Fin 140) : (V c main_call0_v22 : FVec Ideal S5x1x140 .f32) (ix3 n 0 d) = I.dp n d

/-- The block of the input. -/
def B0 (t : Fin cfg0.N) : FVec Ideal S1x200x8x7 .f32 := iblk0 V c 0 t

/-- The block of the projection to the scan. -/
def B1 (t : Fin cfg0.N) : FVec Ideal S1x7x140 .f32 := iblk0 V c 1 t

/-- The block of the projection to the gate. -/
def B2 (t : Fin cfg0.N) : FVec Ideal S1x7x140 .f32 := iblk0 V c 2 t

/-- The block of the taps. -/
def B3 (t : Fin cfg0.N) : FVec Ideal S1x3x140 .f32 := iblk0 V c 3 t

/-- The block of the bias. -/
def B4 (t : Fin cfg0.N) : FVec Ideal S1x1x140 .f32 := iblk0 V c 4 t

/-- The block of the step size's weights. -/
def B5 (t : Fin cfg0.N) : FVec Ideal S1x140x140 .f32 := iblk0 V c 5 t

/-- The block of the step size's bias. -/
def B6 (t : Fin cfg0.N) : FVec Ideal S1x1x140 .f32 := iblk0 V c 6 t

/-- The block of the input matrix's weights. -/
def B7 (t : Fin cfg0.N) : FVec Ideal S1x140x32 .f32 := iblk0 V c 7 t

/-- The block of the output matrix's weights. -/
def B8 (t : Fin cfg0.N) : FVec Ideal S1x140x32 .f32 := iblk0 V c 8 t

/-- The block of the skip weights. -/
def B9 (t : Fin cfg0.N) : FVec Ideal S1x1x140 .f32 := iblk0 V c 9 t

/-- The convolution before its bias, of a grid point's blocks. -/
def v33 (t : Fin cfg0.N) : FVec Ideal S200x8x140 .f32 := k0_pay16 (B0 V c t) (B1 V c t) (B2 V c t) (B3 V c t) (B4 V c t) (B5 V c t) (B6 V c t) (B7 V c t) (B8 V c t) (B9 V c t)

/-- The bias, of a grid point's blocks. -/
def v38 (t : Fin cfg0.N) : FVec Ideal S200x8x140 .f32 := k0_pay17 (B0 V c t) (B1 V c t) (B2 V c t) (B3 V c t) (B4 V c t) (B5 V c t) (B6 V c t) (B7 V c t) (B8 V c t) (B9 V c t)

variable {V c} {I : In} (h : Entry V c I) (t : Fin cfg0.N)
include h

/-- The block of the input. -/
theorem b_x (l : Fin 200) (b : Fin 8) (k : Fin 7) : B0 V c t (ix4 0 l b k) = I.X (bOf t b) (row (nOf t) l) k := by
  refine Eq.trans (b := (V c main_call0_v1 : FVec Ideal S5x200x512x7 .f32) (ix4 (nOf t) l (bOf t b) k)) ?_ (h.x (nOf t) l (bOf t b) k)
  unfold B0
  blk_ext [iblk0, idx0 t, nOf, bOf]

/-- The block of the projection to the scan. -/
theorem b_w (k : Fin 7) (d : Fin 140) : B1 V c t (ix3 0 k d) = I.W (nOf t) (lo d) k := by
  refine Eq.trans (b := (V c main_call0_v3 : FVec Ideal S5x7x140 .f32) (ix3 (nOf t) k d)) ?_ (h.w (nOf t) k d)
  unfold B1
  blk_ext [iblk0, idx1 t, nOf, bOf]

/-- The block of the projection to the gate. -/
theorem b_z (k : Fin 7) (d : Fin 140) : B2 V c t (ix3 0 k d) = I.W (nOf t) (hi d) k := by
  refine Eq.trans (b := (V c main_call0_v5 : FVec Ideal S5x7x140 .f32) (ix3 (nOf t) k d)) ?_ (h.z (nOf t) k d)
  unfold B2
  blk_ext [iblk0, idx2 t, nOf, bOf]

/-- The block of the taps. -/
theorem b_cw (k : Fin 3) (d : Fin 140) : B3 V c t (ix3 0 k d) = I.cw (nOf t) d k := by
  refine Eq.trans (b := (V c main_call0_v7 : FVec Ideal S5x3x140 .f32) (ix3 (nOf t) k d)) ?_ (h.cw (nOf t) k d)
  unfold B3
  blk_ext [iblk0, idx3 t, nOf, bOf]

/-- The block of the bias. -/
theorem b_cb (d : Fin 140) : B4 V c t (ix3 0 0 d) = I.cb (nOf t) d := by
  refine Eq.trans (b := (V c main_call0_v8 : FVec Ideal S5x1x140 .f32) (ix3 (nOf t) 0 d)) ?_ (h.cb (nOf t) d)
  unfold B4
  blk_ext [iblk0, idx4 t, nOf, bOf]

/-- The block of the step size's weights. -/
theorem b_wd (e d : Fin 140) : B5 V c t (ix3 0 e d) = I.xp (nOf t) 0 e * I.dw (nOf t) d := by
  refine Eq.trans (b := (V c main_call0_v20 : FVec Ideal S5x140x140 .f32) (ix3 (nOf t) e d)) ?_ (h.wd (nOf t) e d)
  unfold B5
  blk_ext [iblk0, idx5 t, nOf, bOf]

/-- The block of the step size's bias. -/
theorem b_db (d : Fin 140) : B6 V c t (ix3 0 0 d) = I.db (nOf t) d := by
  refine Eq.trans (b := (V c main_call0_v21 : FVec Ideal S5x1x140 .f32) (ix3 (nOf t) 0 d)) ?_ (h.db (nOf t) d)
  unfold B6
  blk_ext [iblk0, idx6 t, nOf, bOf]

/-- The block of the input matrix's weights. -/
theorem b_bw (d : Fin 140) (s : Fin 32) : B7 V c t (ix3 0 d s) = I.xp (nOf t) (bRow s) d := by
  refine Eq.trans (b := (V c main_call0_v12 : FVec Ideal S5x140x32 .f32) (ix3 (nOf t) d s)) ?_ (h.bw (nOf t) d s)
  unfold B7
  blk_ext [iblk0, idx7 t, nOf, bOf]

/-- The block of the output matrix's weights. -/
theorem b_cww (d : Fin 140) (s : Fin 32) : B8 V c t (ix3 0 d s) = I.xp (nOf t) (cRow s) d := by
  refine Eq.trans (b := (V c main_call0_v14 : FVec Ideal S5x140x32 .f32) (ix3 (nOf t) d s)) ?_ (h.cww (nOf t) d s)
  unfold B8
  blk_ext [iblk0, idx8 t, nOf, bOf]

/-- The block of the skip weights. -/
theorem b_dp (d : Fin 140) : B9 V c t (ix3 0 0 d) = I.dp (nOf t) d := by
  refine Eq.trans (b := (V c main_call0_v22 : FVec Ideal S5x1x140 .f32) (ix3 (nOf t) 0 d)) ?_ (h.dp (nOf t) d)
  unfold B9
  blk_ext [iblk0, idx9 t, nOf, bOf]

/-- The convolved input, as the body's two parts give it. -/
theorem b_conv (l : Fin 200) (b : Fin 8) (d : Fin 140) :
    v33 V c t (ix3 l b d) + v38 V c t (ix3 l b d) = xc I (nOf t) (bOf t b) l d :=
  conv_bias_at I (nOf t) (bOf t) _ _ _ _ _ _ _ _ _ _ (b_x h t) (b_w h t) (b_cw h t) (b_cb h t) l b d

omit h in
/-- Where an element of output 0's block lies in its array. -/
theorem emb10 (z : Fin 1) (l : Fin 200) (b : Fin 8) (d : Fin 140) :
    ((cfg0.win 10).blk t).view.emb (ix4 z l b d) = (ix4 (nOf t) l (bOf t b) d : (⟨4, ![5, 200, 512, 140]⟩ : Shape).Idx) := by
  blk_ext [idx10 t, nOf, bOf]

/-- The decay's array after the call. -/
theorem out10 : (dat0 V c).arrAt 10 cfg0.N = (fun j : S5x200x512x140.Idx => Ideal.exp (-(deltaK I (j 0) (j 2) (j 1) (j 3)))) := by
  refine (dat0 V c).arrAt_eq_of_covers 10 _ (by decide +kernel) fun t hf y => ?_
  blk_simp
  rw [after0_10]
  frame_out
  obtain ⟨z, l, b, d, rfl⟩ : ∃ (z : Fin 1) (l : Fin 200) (b : Fin 8) (d : Fin 140), y = ix4 z l b d := ⟨y 0, y 1, y 2, y 3, eq_ix4 y⟩
  obtain rfl : z = 0 := Subsingleton.elim _ _
  refine Eq.trans ?_ ((r_at I (nOf t) (bOf t) _ _ (b_wd h t) (b_db h t) (v33 V c t) (v38 V c t) (b_conv h t) l b d).trans ?_)
  · rfl
  exact (congrArg (fun j : S5x200x512x140.Idx => Ideal.exp (-(deltaK I (j 0) (j 2) (j 1) (j 3)))) (emb10 t 0 l b d)).symm

omit h in
/-- Where an element of output 1's block lies in its array. -/
theorem emb11 (z : Fin 1) (l : Fin 200) (b : Fin 8) (d : Fin 140) :
    ((cfg0.win 11).blk t).view.emb (ix4 z l b d) = (ix4 (nOf t) l (bOf t b) d : (⟨4, ![5, 200, 512, 140]⟩ : Shape).Idx) := by
  blk_ext [idx11 t, nOf, bOf]

/-- The step size times the input's array after the call. -/
theorem out11 : (dat0 V c).arrAt 11 cfg0.N = (fun j : S5x200x512x140.Idx => deltaK I (j 0) (j 2) (j 1) (j 3) * xi I (j 0) (j 2) (j 1) (j 3)) := by
  refine (dat0 V c).arrAt_eq_of_covers 11 _ (by decide +kernel) fun t hf y => ?_
  blk_simp
  rw [after0_11]
  frame_out
  obtain ⟨z, l, b, d, rfl⟩ : ∃ (z : Fin 1) (l : Fin 200) (b : Fin 8) (d : Fin 140), y = ix4 z l b d := ⟨y 0, y 1, y 2, y 3, eq_ix4 y⟩
  obtain rfl : z = 0 := Subsingleton.elim _ _
  refine Eq.trans ?_ ((dx_at I (nOf t) (bOf t) _ _ (b_wd h t) (b_db h t) (v33 V c t) (v38 V c t) (b_conv h t) l b d).trans ?_)
  · rfl
  exact (congrArg (fun j : S5x200x512x140.Idx => deltaK I (j 0) (j 2) (j 1) (j 3) * xi I (j 0) (j 2) (j 1) (j 3)) (emb11 t 0 l b d)).symm

omit h in
/-- Where an element of output 2's block lies in its array. -/
theorem emb12 (z : Fin 1) (l : Fin 200) (b : Fin 8) (d : Fin 140) :
    ((cfg0.win 12).blk t).view.emb (ix4 z l b d) = (ix4 (nOf t) l (bOf t b) d : (⟨4, ![5, 200, 512, 140]⟩ : Shape).Idx) := by
  blk_ext [idx12 t, nOf, bOf]

/-- The weighted input's array after the call. -/
theorem out12 : (dat0 V c).arrAt 12 cfg0.N = (fun j : S5x200x512x140.Idx => I.dp (j 0) (j 3) * xi I (j 0) (j 2) (j 1) (j 3)) := by
  refine (dat0 V c).arrAt_eq_of_covers 12 _ (by decide +kernel) fun t hf y => ?_
  blk_simp
  rw [after0_12]
  frame_out
  obtain ⟨z, l, b, d, rfl⟩ : ∃ (z : Fin 1) (l : Fin 200) (b : Fin 8) (d : Fin 140), y = ix4 z l b d := ⟨y 0, y 1, y 2, y 3, eq_ix4 y⟩
  obtain rfl : z = 0 := Subsingleton.elim _ _
  refine Eq.trans ?_ ((wxi_at I (nOf t) (bOf t) _ (b_dp h t) (v33 V c t) (v38 V c t) (b_conv h t) l b d).trans ?_)
  · rfl
  exact (congrArg (fun j : S5x200x512x140.Idx => I.dp (j 0) (j 3) * xi I (j 0) (j 2) (j 1) (j 3)) (emb12 t 0 l b d)).symm

omit h in
/-- Where an element of output 3's block lies in its array. -/
theorem emb13 (z : Fin 1) (l : Fin 200) (b : Fin 8) (d : Fin 140) :
    ((cfg0.win 13).blk t).view.emb (ix4 z l b d) = (ix4 (nOf t) l (bOf t b) d : (⟨4, ![5, 200, 512, 140]⟩ : Shape).Idx) := by
  blk_ext [idx13 t, nOf, bOf]

/-- The gate's array after the call. -/
theorem out13 : (dat0 V c).arrAt 13 cfg0.N = (fun j : S5x200x512x140.Idx => zs I (j 0) (j 2) (j 1) (j 3)) := by
  refine (dat0 V c).arrAt_eq_of_covers 13 _ (by decide +kernel) fun t hf y => ?_
  blk_simp
  rw [after0_13]
  frame_out
  obtain ⟨z, l, b, d, rfl⟩ : ∃ (z : Fin 1) (l : Fin 200) (b : Fin 8) (d : Fin 140), y = ix4 z l b d := ⟨y 0, y 1, y 2, y 3, eq_ix4 y⟩
  obtain rfl : z = 0 := Subsingleton.elim _ _
  refine Eq.trans ?_ ((zs_at I (nOf t) (bOf t) _ _ (b_x h t) (b_z h t) l b d).trans ?_)
  · rfl
  exact (congrArg (fun j : S5x200x512x140.Idx => zs I (j 0) (j 2) (j 1) (j 3)) (emb13 t 0 l b d)).symm

omit h in
/-- Where an element of output 4's block lies in its array. -/
theorem emb14 (z : Fin 1) (l : Fin 200) (b : Fin 8) (d : Fin 32) :
    ((cfg0.win 14).blk t).view.emb (ix4 z l b d) = (ix4 (nOf t) l (bOf t b) d : (⟨4, ![5, 200, 512, 32]⟩ : Shape).Idx) := by
  blk_ext [idx14 t, nOf, bOf]

/-- The input matrix's array after the call. -/
theorem out14 : (dat0 V c).arrAt 14 cfg0.N = (fun j : S5x200x512x32.Idx => bm I (j 0) (j 2) (j 1) (j 3)) := by
  refine (dat0 V c).arrAt_eq_of_covers 14 _ (by decide +kernel) fun t hf y => ?_
  blk_simp
  rw [after0_14]
  frame_out
  obtain ⟨z, l, b, d, rfl⟩ : ∃ (z : Fin 1) (l : Fin 200) (b : Fin 8) (d : Fin 32), y = ix4 z l b d := ⟨y 0, y 1, y 2, y 3, eq_ix4 y⟩
  obtain rfl : z = 0 := Subsingleton.elim _ _
  refine Eq.trans ?_ ((bm_at I (nOf t) (bOf t) _ (b_bw h t) (v33 V c t) (v38 V c t) (b_conv h t) l b d).trans ?_)
  · rfl
  exact (congrArg (fun j : S5x200x512x32.Idx => bm I (j 0) (j 2) (j 1) (j 3)) (emb14 t 0 l b d)).symm

omit h in
/-- Where an element of output 5's block lies in its array. -/
theorem emb15 (z : Fin 1) (l : Fin 200) (b : Fin 8) (d : Fin 32) :
    ((cfg0.win 15).blk t).view.emb (ix4 z l b d) = (ix4 (nOf t) l (bOf t b) d : (⟨4, ![5, 200, 512, 32]⟩ : Shape).Idx) := by
  blk_ext [idx15 t, nOf, bOf]

/-- The output matrix's array after the call. -/
theorem out15 : (dat0 V c).arrAt 15 cfg0.N = (fun j : S5x200x512x32.Idx => cm I (j 0) (j 2) (j 1) (j 3)) := by
  refine (dat0 V c).arrAt_eq_of_covers 15 _ (by decide +kernel) fun t hf y => ?_
  blk_simp
  rw [after0_15]
  frame_out
  obtain ⟨z, l, b, d, rfl⟩ : ∃ (z : Fin 1) (l : Fin 200) (b : Fin 8) (d : Fin 32), y = ix4 z l b d := ⟨y 0, y 1, y 2, y 3, eq_ix4 y⟩
  obtain rfl : z = 0 := Subsingleton.elim _ _
  refine Eq.trans ?_ ((cm_at I (nOf t) (bOf t) _ (b_cww h t) (v33 V c t) (v38 V c t) (b_conv h t) l b d).trans ?_)
  · rfl
  exact (congrArg (fun j : S5x200x512x32.Idx => cm I (j 0) (j 2) (j 1) (j 3)) (emb15 t 0 l b d)).symm

end Cert.KernelIdeal.Region0
end
-- ==== Proof.Host0.lean ====
/- What the first call finds: the arguments' arrays, sliced, transposed and merged. -/
module

public import proofs.«01_k».proof.Proof.Region0
public import proofs.«01_k».proof.Proof.RefInit
public import Idealize.ShloMosaic.Lib.StableHlo.ReadAt

@[expose] public section

set_option maxRecDepth 16384

noncomputable section

namespace Cert.KernelIdeal.Host0

open Idealize.ShloMosaic Idealize.ShloMosaic.TcCoe Idealize.ShloMosaic.Tactic Cert.KernelIdeal Cert.KernelIdeal.Gen Cert.Spec
open Idealize.SL Idealize.SL.Sem

variable (W : Valuation τ sig (Elt Ideal))

/-- The arguments as the layer's inputs. -/
def inputs : In := Cert.ReferenceIdeal.Init.input (W main_arg0) (W main_arg1) (W main_arg2) (W main_arg3) (W main_arg4) (W main_arg5) (W main_arg6) (W main_arg7) (W main_arg8)
  (W main_arg9) (W main_arg10) (W main_arg11) (W main_arg12) (W main_arg13)

/-- The input, by branch and time. -/
theorem x (n : Fin 5) (l : Fin 200) (b : Fin 512) (k : Fin 7) : (StableHlo.after hostOps0 W main_call0_v1 : FVec Ideal S5x200x512x7 .f32) (ix4 n l b k) = (inputs W).X b (row n l) k := by
  unfold inputs Cert.ReferenceIdeal.Init.input
  after_reads_at
  exact congrArg (fun q => (W main_arg0 : FVec Ideal S512x1000x7 .f32) (ix3 b q k)) (Fin.ext (by simp only [row]))

/-- The first half of the input projection. -/
theorem w (n : Fin 5) (k : Fin 7) (d : Fin 140) : (StableHlo.after hostOps0 W main_call0_v3 : FVec Ideal S5x7x140 .f32) (ix3 n k d) = (inputs W).W n (lo d) k := by
  unfold inputs Cert.ReferenceIdeal.Init.input
  after_reads_at
  exact congrArg (fun q => (W main_arg1 : FVec Ideal S5x280x7 .f32) (ix3 n q k)) (Fin.ext (by simp only [lo]))

/-- The second half of the input projection. -/
theorem z (n : Fin 5) (k : Fin 7) (d : Fin 140) : (StableHlo.after hostOps0 W main_call0_v5 : FVec Ideal S5x7x140 .f32) (ix3 n k d) = (inputs W).W n (hi d) k := by
  unfold inputs Cert.ReferenceIdeal.Init.input
  after_reads_at
  exact congrArg (fun q => (W main_arg1 : FVec Ideal S5x280x7 .f32) (ix3 n q k)) (Fin.ext (by simp only [hi]))

/-- The convolution's taps. -/
theorem cw (n : Fin 5) (k : Fin 3) (d : Fin 140) : (StableHlo.after hostOps0 W main_call0_v7 : FVec Ideal S5x3x140 .f32) (ix3 n k d) = (inputs W).cw n d k := by
  unfold inputs Cert.ReferenceIdeal.Init.input
  after_reads_at

/-- The convolution's bias. -/
theorem cb (n : Fin 5) (d : Fin 140) : (StableHlo.after hostOps0 W main_call0_v8 : FVec Ideal S5x1x140 .f32) (ix3 n 0 d) = (inputs W).cb n d := by
  unfold inputs Cert.ReferenceIdeal.Init.input
  after_reads_at

/-- The merged step weights. -/
theorem wd (n : Fin 5) (e d : Fin 140) : (StableHlo.after hostOps0 W main_call0_v20 : FVec Ideal S5x140x140 .f32) (ix3 n e d) = (inputs W).xp n 0 e * (inputs W).dw n d := by
  unfold inputs Cert.ReferenceIdeal.Init.input
  after_reads_at

/-- The step's bias. -/
theorem db (n : Fin 5) (d : Fin 140) : (StableHlo.after hostOps0 W main_call0_v21 : FVec Ideal S5x1x140 .f32) (ix3 n 0 d) = (inputs W).db n d := by
  unfold inputs Cert.ReferenceIdeal.Init.input
  after_reads_at

/-- The input matrix's weights. -/
theorem bw (n : Fin 5) (d : Fin 140) (s : Fin 32) : (StableHlo.after hostOps0 W main_call0_v12 : FVec Ideal S5x140x32 .f32) (ix3 n d s) = (inputs W).xp n (bRow s) d := by
  unfold inputs Cert.ReferenceIdeal.Init.input
  after_reads_at
  exact congrArg (fun q => (W main_arg4 : FVec Ideal S5x65x140 .f32) (ix3 n q d)) (Fin.ext (by simp only [bRow]))

/-- The output matrix's weights. -/
theorem cww (n : Fin 5) (d : Fin 140) (s : Fin 32) : (StableHlo.after hostOps0 W main_call0_v14 : FVec Ideal S5x140x32 .f32) (ix3 n d s) = (inputs W).xp n (cRow s) d := by
  unfold inputs Cert.ReferenceIdeal.Init.input
  after_reads_at
  exact congrArg (fun q => (W main_arg4 : FVec Ideal S5x65x140 .f32) (ix3 n q d)) (Fin.ext (by simp only [cRow]))

/-- The skip's weights. -/
theorem dp (n : Fin 5) (d : Fin 140) : (StableHlo.after hostOps0 W main_call0_v22 : FVec Ideal S5x1x140 .f32) (ix3 n 0 d) = (inputs W).dp n d := by
  unfold inputs Cert.ReferenceIdeal.Init.input
  after_reads_at

/-- The first call's entry holds the layer's inputs. -/
theorem entry (c : Dev nD) (V : (c : Dev nD) → (b : Ref sig .tc) → Buf (Elt Ideal) ((c : Thread nD τ).loc b)) (hV : ∀ b : Ref sig .tc, V c b = StableHlo.after hostOps0 W b) :
    Region0.Entry V c (inputs W) where
  x n l b k := (congrArg (fun q : FVec Ideal S5x200x512x7 .f32 => q (ix4 n l b k)) (hV main_call0_v1)).trans (x W n l b k)
  w n k d := (congrArg (fun q : FVec Ideal S5x7x140 .f32 => q (ix3 n k d)) (hV main_call0_v3)).trans (w W n k d)
  z n k d := (congrArg (fun q : FVec Ideal S5x7x140 .f32 => q (ix3 n k d)) (hV main_call0_v5)).trans (z W n k d)
  cw n k d := (congrArg (fun q : FVec Ideal S5x3x140 .f32 => q (ix3 n k d)) (hV main_call0_v7)).trans (cw W n k d)
  cb n d := (congrArg (fun q : FVec Ideal S5x1x140 .f32 => q (ix3 n 0 d)) (hV main_call0_v8)).trans (cb W n d)
  wd n e d := (congrArg (fun q : FVec Ideal S5x140x140 .f32 => q (ix3 n e d)) (hV main_call0_v20)).trans (wd W n e d)
  db n d := (congrArg (fun q : FVec Ideal S5x1x140 .f32 => q (ix3 n 0 d)) (hV main_call0_v21)).trans (db W n d)
  bw n d s := (congrArg (fun q : FVec Ideal S5x140x32 .f32 => q (ix3 n d s)) (hV main_call0_v12)).trans (bw W n d s)
  cww n d s := (congrArg (fun q : FVec Ideal S5x140x32 .f32 => q (ix3 n d s)) (hV main_call0_v14)).trans (cww W n d s)
  dp n d := (congrArg (fun q : FVec Ideal S5x1x140 .f32 => q (ix3 n 0 d)) (hV main_call0_v22)).trans (dp W n d)

end Cert.KernelIdeal.Host0
end
-- ==== Proof.Loop.lean ====
/- One trip of the scan's loop: four repeats of a step of thirty-two states, each storing one row of the output block. -/
module

public import proofs.«01_k».proof.Proof.Gen.KernelIdeal.Loops
public import Idealize.ShloMosaic.Lib.Tactic.Stretches

@[expose] public section

set_option maxRecDepth 16384
set_option maxHeartbeats 4000000

noncomputable section

namespace Cert.KernelIdeal.Scan

open Idealize.ShloMosaic Idealize.ShloMosaic.TcCoe Idealize.ShloMosaic.Tactic Cert.KernelIdeal Cert.KernelIdeal.Gen
open Idealize.SL Idealize.SL.Sem

variable {F : FTy → Type} [FloatOps F]
variable (𝒱 : Variants) (c : Dev nD) (bd : Option 𝒱.V) (i : grid1.Coords)
  (arg3 : Memref sig .tc .vmem S1x200x40x128 .f32) (harg3 : arg3.IsWhole)
  (arg4 : Memref sig .tc .vmem S1x200x40x128 .f32) (harg4 : arg4.IsWhole)
  (arg5 : Memref sig .tc .vmem S1x200x40x128 .f32) (harg5 : arg5.IsWhole)
  (arg6 : Memref sig .tc .vmem S1x200x40x128 .f32) (harg6 : arg6.IsWhole)
  (arg7 : Memref sig .tc .vmem S1x200x32x128 .f32) (harg7 : arg7.IsWhole)
  (arg8 : Memref sig .tc .vmem S1x200x32x128 .f32) (harg8 : arg8.IsWhole)
  (arg9 : Memref sig .tc .vmem S1x1x7x40 .f32) (harg9 : arg9.IsWhole)
  (arg10 : Memref sig .tc .vmem S1x200x8x128 .f32) (harg10 : arg10.IsWhole)
  (arg11 : Memref sig .tc .vmem S1x1x2x8x128 .f32) (harg11 : arg11.IsWhole)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty)

/-- Nested pairs of `n + 1` blocks. -/
@[reducible] def Tup (V : Type) : ℕ → Type
  | 0 => V
  | n + 1 => V × Tup V n

/-- Component `s` of nested pairs. -/
def tget {V : Type} : (n : ℕ) → Tup V n → ℕ → V
  | 0, a, _ => a
  | _ + 1, a, 0 => a.1
  | n + 1, a, s + 1 => tget n a.2 s

/-- The nested pairs with given components. -/
def tmk {V : Type} : (n : ℕ) → (ℕ → V) → Tup V n
  | 0, h => h 0
  | n + 1, h => (h 0, tmk n fun s => h (s + 1))

/-- Every state's row lies in the block. -/
theorem slices32 (s : ℕ) : S32x128.Slices ![s % 32, 0] S1x128 := ⟨rfl, fun a => by
  have := Nat.mod_lt s (show 32 > 0 by decide)
  match a with
  | ⟨0, _⟩ => show s % 32 + 1 ≤ 32; omega
  | ⟨1, _⟩ => show 0 + 128 ≤ 128; omega⟩

/-- Row `s` of a block of states, under every channel. -/
def bcRow (M : FVec F S32x128 .f32) (s : ℕ) : FVec F S40x128 .f32 :=
  broadcastTo S40x128 (shapeCast S1x128 (shapeCast S128
    (extractStridedSlice S1x128 ![s % 32, 0] M (slices32 s)) shapeCasts_S1x128_S128) shapeCasts_S128_S1x128) broadcasts_S1x128_S40x128

/-- `r` to the power `s + 1`, by repeated products. -/
def pw (r : FVec F S40x128 .f32) : ℕ → FVec F S40x128 .f32
  | 0 => r
  | s + 1 => mulf (pw r s) r

/-- One step of all states. -/
def newH (r dx : FVec F S40x128 .f32) (B : FVec F S32x128 .f32) (h : ℕ → FVec F S40x128 .f32) (s : ℕ) : FVec F S40x128 .f32 :=
  addf (mulf (h s) (pw r s)) (mulf dx (bcRow B s))

/-- The block of forty channels that a repeat of a trip loads. -/
def ld40 (M : Memref sig .tc .vmem S1x200x40x128 .f32) (X : BufTy.Contents (Elt F) M.view.ty) (k : Fin k1_t1_loop.trips) (u : Fin 4) : FVec F S40x128 .f32 :=
  shapeCast S40x128 (View.readAt (Elt F) M.view (Rect.unit (s := S1x200x40x128) (k1_off1 k (BitVec.ofNat 32 u.val)) ![1, 1, 40, 128] (k1_off1_inb k u)).toLoadRect X : Vec F S1x1x40x128 .f32) shapeCasts_S1x1x40x128_S40x128

/-- The block of thirty-two states that a repeat of a trip loads. -/
def ld32 (M : Memref sig .tc .vmem S1x200x32x128 .f32) (X : BufTy.Contents (Elt F) M.view.ty) (k : Fin k1_t1_loop.trips) (u : Fin 4) : FVec F S32x128 .f32 :=
  shapeCast S32x128 (View.readAt (Elt F) M.view (Rect.unit (s := S1x200x32x128) (k1_off2 k (BitVec.ofNat 32 u.val)) ![1, 1, 32, 128] (k1_off2_inb k u)).toLoadRect X : Vec F S1x1x32x128 .f32) shapeCasts_S1x1x32x128_S32x128

/-- What the loop carries: the thirty-two states' blocks. -/
abbrev Carry (F : FTy → Type) [FloatOps F] := FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32 × FVec F S40x128 .f32

/-- The sum over the first `n` states of state times `C`'s row. -/
def accUp (C : FVec F S32x128 .f32) (h : ℕ → FVec F S40x128 .f32) : ℕ → FVec F S40x128 .f32
  | 0 => broadcast S40x128 (Scalar.ofBits .f32 0x00000000#32)
  | s + 1 => addf (accUp C h s) (mulf (h s) (bcRow C s))

/-- The row's contribution: the projection of the gated step. -/
def opRow (w : FVec F S7x40 .f32) (y xi z : FVec F S40x128 .f32) : FVec F S7x128 .f32 :=
  matmul dot_S7x40_S40x128_S7x128_1_0_0_1_n_n none w (mulf (addf y xi) z) (constant S7x128 .f32 0x00000000#32)

/-- The projection block. -/
def ldW (X9 : BufTy.Contents (Elt F) arg9.view.ty) : FVec F S7x40 .f32 :=
  shapeCast S7x40 (View.readAt (Elt F) arg9.view (Rect.unit (s := S1x1x7x40) ![0, 0, 0, 0] ![1, 1, 7, 40] inb_S1x1x7x40_S1x1x7x40_0_0_0_0).toLoadRect X9 : Vec F S1x1x7x40 .f32) shapeCasts_S1x1x7x40_S7x40

/-- The row of the output block of trip `k`, repeat `u`. -/
@[reducible] def orect (k : Fin k1_t1_loop.trips) (u : Fin 4) : Rect S1x200x8x128 :=
  Rect.unit (s := S1x200x8x128) (k1_off3 k (BitVec.ofNat 32 u.val)) ![1, 1, 7, 128] (k1_off3_inb k u)

/-- One repeat of a trip: the states step, and the row is stored over what the buffer holds. -/
def rep (f : BufTy.Contents (Elt F) arg10.view.ty) (k : Fin k1_t1_loop.trips) (u : Fin 4)
    (p : (ℕ → FVec F S40x128 .f32) × List (View.Piece (Elt F) S1x200x8x128 .f32)) : (ℕ → FVec F S40x128 .f32) × List (View.Piece (Elt F) S1x200x8x128 .f32) :=
  let h := newH (ld40 arg3 X3 k u) (ld40 arg4 X4 k u) (ld32 arg7 X7 k u) p.1
  (h, (⟨orect k u, shapeCast S1x1x7x128 (addf (shapeCast S7x128 (View.readAt (Elt F) arg10.view (orect k u).toLoadRect f : Vec F S1x1x7x128 .f32) shapeCasts_S1x1x7x128_S7x128)
     (opRow (ldW arg9 X9) (accUp (ld32 arg8 X8 k u) h 32) (ld40 arg5 X5 k u) (ld40 arg6 X6 k u))) shapeCasts_S7x128_S1x1x7x128⟩ : View.Piece (Elt F) S1x200x8x128 .f32) :: p.2)

/-- A trip yields the states after four repeats. -/
theorem tripR_eq (k : Fin k1_t1_loop.trips) (acc : Carry F) (f : BufTy.Contents (Elt F) arg10.view.ty)  :
   tripR_k1_t1 (F := F) 𝒱 c bd i arg3 harg3 arg4 harg4 arg5 harg5 arg6 harg6 arg7 harg7 arg8 harg8 arg9 harg9 arg10 harg10 arg11 harg11 X3 X4 X5 X6 X7 X8 X9 k acc f =
     tmk 31 (rep arg3 arg4 arg5 arg6 arg7 arg8 arg9 arg10 X3 X4 X5 X6 X7 X8 X9 f k 3
       (rep arg3 arg4 arg5 arg6 arg7 arg8 arg9 arg10 X3 X4 X5 X6 X7 X8 X9 f k 2
       (rep arg3 arg4 arg5 arg6 arg7 arg8 arg9 arg10 X3 X4 X5 X6 X7 X8 X9 f k 1
       (rep arg3 arg4 arg5 arg6 arg7 arg8 arg9 arg10 X3 X4 X5 X6 X7 X8 X9 f k 0 (tget 31 acc, []))))).1 := by
  unfold tripR_k1_t1 trip_k1_t1
  dsimp only
  sl_open_run
  sl_open_pay
  rfl

/-- A trip stores the rows of its four repeats. -/
theorem tripL_eq (k : Fin k1_t1_loop.trips) (acc : Carry F) (f : BufTy.Contents (Elt F) arg10.view.ty)  :
   tripL_k1_t1 (F := F) 𝒱 c bd i arg3 harg3 arg4 harg4 arg5 harg5 arg6 harg6 arg7 harg7 arg8 harg8 arg9 harg9 arg10 harg10 arg11 harg11 X3 X4 X5 X6 X7 X8 X9 k acc f =
     (rep arg3 arg4 arg5 arg6 arg7 arg8 arg9 arg10 X3 X4 X5 X6 X7 X8 X9 f k 3
       (rep arg3 arg4 arg5 arg6 arg7 arg8 arg9 arg10 X3 X4 X5 X6 X7 X8 X9 f k 2
       (rep arg3 arg4 arg5 arg6 arg7 arg8 arg9 arg10 X3 X4 X5 X6 X7 X8 X9 f k 1
       (rep arg3 arg4 arg5 arg6 arg7 arg8 arg9 arg10 X3 X4 X5 X6 X7 X8 X9 f k 0 (tget 31 acc, []))))).2 := by
  unfold tripL_k1_t1 trip_k1_t1
  dsimp only
  sl_open_run
  sl_open_pay
  rfl

end Cert.KernelIdeal.Scan
end
-- ==== Proof.LoopVal.lean ====
/- What the scan's loop leaves: the states after every step, and each row of the output block with its contribution added. -/
module

public import proofs.«01_k».proof.Proof.Loop
public import Idealize.ShloMosaic.Lib.Pointwise
public import Idealize.ShloMosaic.Lib.WritesUnit

@[expose] public section

set_option maxRecDepth 16384

noncomputable section

namespace Cert.KernelIdeal.Scan

open Idealize.ShloMosaic Idealize.ShloMosaic.TcCoe Idealize.ShloMosaic.Tactic Cert.KernelIdeal Cert.KernelIdeal.Gen
open Idealize.SL Idealize.SL.Sem

/-- A component of nested pairs built from components. -/
theorem tget_tmk {V : Type} : ∀ (n s : ℕ) (h : ℕ → V), s ≤ n → tget n (tmk n h) s = h s
  | 0, s, h, hs => by obtain rfl : s = 0 := by omega
                      rfl
  | n + 1, 0, h, _ => rfl
  | n + 1, s + 1, h, hs => tget_tmk n s (fun s => h (s + 1)) (by omega)

/-- The sum over the first `n` states reads only those states. -/
theorem accUp_congr (C : FVec Ideal S32x128 .f32) (h h' : ℕ → FVec Ideal S40x128 .f32) :
    ∀ n, (∀ s < n, h s = h' s) → accUp C h n = accUp C h' n
  | 0, _ => rfl
  | n + 1, hh => by
    unfold accUp
    rw [accUp_congr C h h' n (fun s hs => hh s (by omega)), hh n (by omega)]

/-- The block of zeros a scan starts from. -/
def zero40 : FVec Ideal S40x128 .f32 := broadcast S40x128 (Scalar.ofBits .f32 0x00000000#32)

variable (R DX XI Z : ℕ → FVec Ideal S40x128 .f32) (B C : ℕ → FVec Ideal S32x128 .f32) (W : FVec Ideal S7x40 .f32)

/-- The states before step `t`. -/
def hs : ℕ → ℕ → FVec Ideal S40x128 .f32
  | 0, _ => zero40
  | t + 1, s => newH (R t) (DX t) (B t) (hs t) s

/-- The contribution of step `t`. -/
def opAt (t : ℕ) : FVec Ideal S7x128 .f32 := opRow W (accUp (C t) (hs R DX B (t + 1)) 32) (XI t) (Z t)

variable (𝒱 : Variants) (c : Dev nD) (bd : Option 𝒱.V) (i : grid1.Coords)
  (arg3 : Memref sig .tc .vmem S1x200x40x128 .f32) (harg3 : arg3.IsWhole)
  (arg4 : Memref sig .tc .vmem S1x200x40x128 .f32) (harg4 : arg4.IsWhole)
  (arg5 : Memref sig .tc .vmem S1x200x40x128 .f32) (harg5 : arg5.IsWhole)
  (arg6 : Memref sig .tc .vmem S1x200x40x128 .f32) (harg6 : arg6.IsWhole)
  (arg7 : Memref sig .tc .vmem S1x200x32x128 .f32) (harg7 : arg7.IsWhole)
  (arg8 : Memref sig .tc .vmem S1x200x32x128 .f32) (harg8 : arg8.IsWhole)
  (arg9 : Memref sig .tc .vmem S1x1x7x40 .f32) (harg9 : arg9.IsWhole)
  (arg10 : Memref sig .tc .vmem S1x200x8x128 .f32) (harg10 : arg10.IsWhole)
  (arg11 : Memref sig .tc .vmem S1x1x2x8x128 .f32) (harg11 : arg11.IsWhole)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (X9 : BufTy.Contents (Elt Ideal) arg9.view.ty)

/-- A stored row over the rest: at its own row and the first seven rows of it, what was there plus the contribution. -/
theorem read_row (f g : BufTy.Contents (Elt Ideal) arg10.view.ty) (k : Fin k1_t1_loop.trips) (u : Fin 4) (op : FVec Ideal S7x128 .f32)
    (L : List (View.Piece (Elt Ideal) S1x200x8x128 .f32)) (t : Fin 200) (o : Fin 8) (b : Fin 128) :
    arg10.view.read (Elt Ideal) (arg10.view.writes (Elt Ideal) f
      ((⟨orect k u, shapeCast S1x1x7x128 (addf (shapeCast S7x128 (View.readAt (Elt Ideal) arg10.view (orect k u).toLoadRect g : Vec Ideal S1x1x7x128 .f32) shapeCasts_S1x1x7x128_S7x128)
        op) shapeCasts_S7x128_S1x1x7x128⟩ : View.Piece (Elt Ideal) S1x200x8x128 .f32) :: L)) (ix4 0 t o b)
      = if h : t.val = 4 * k.val + u.val ∧ o.val < 7 then
          (arg10.view.read (Elt Ideal) g (ix4 0 t o b) + op (ix2 ⟨o.val, h.2⟩ b) : EReal)
        else arg10.view.read (Elt Ideal) (arg10.view.writes (Elt Ideal) f L) (ix4 0 t o b) := by
  by_cases h : t.val = 4 * k.val + u.val ∧ o.val < 7
  · rw [dif_pos h]
    refine (View.read_writes_cons_unit_of_mem arg10.view f (size := ![1, 1, 7, 128]) (k1_off3_inb k u) _ L (ix4 0 t o b)
      (ix4 0 0 ⟨o.val, h.2⟩ b : (⟨4, ![1, 1, 7, 128]⟩ : Shape).Idx) (k1_off3_eq k u) (fun a => by
        match a with
        | ⟨0, _⟩ => rfl
        | ⟨1, _⟩ => show t.val = 4 * k.val + u.val + 0; omega
        | ⟨2, _⟩ => show o.val = 0 + o.val; omega
        | ⟨3, _⟩ => show b.val = 0 + b.val; omega)).trans ?_
    pointwise
    refine congrArg (fun z : EReal => z + _) ?_
    refine congrArg (arg10.view.read (Elt Ideal) g) (funext fun a => Fin.ext ?_)
    have e := k1_off3_eq k u
    match a with
    | ⟨0, _⟩ => show k1_off3 k (BitVec.ofNat 32 u.val) 0 + 1 * 0 = 0; rw [e]; rfl
    | ⟨1, _⟩ => show k1_off3 k (BitVec.ofNat 32 u.val) 1 + 1 * 0 = t.val; rw [e]; show 4 * k.val + u.val + 1 * 0 = t.val; omega
    | ⟨2, _⟩ => show k1_off3 k (BitVec.ofNat 32 u.val) 2 + 1 * o.val = o.val; rw [e]; show 0 + 1 * o.val = o.val; omega
    | ⟨3, _⟩ => show k1_off3 k (BitVec.ofNat 32 u.val) 3 + 1 * b.val = b.val; rw [e]; show 0 + 1 * b.val = b.val; omega
  · rw [dif_neg h]
    by_cases ht : t.val = 4 * k.val + u.val
    · have ho : 7 ≤ o.val := by
        by_contra hh
        exact h ⟨ht, by omega⟩
      exact View.read_writes_cons_unit_of_not_mem arg10.view f _ _ L (ix4 0 t o b) (k1_off3_eq k u) 2
        (Or.inr (show 0 + 7 ≤ o.val by omega))
    · exact View.read_writes_cons_unit_of_not_mem arg10.view f _ _ L (ix4 0 t o b) (k1_off3_eq k u) 1
        (by
          show t.val < 4 * k.val + u.val ∨ 4 * k.val + u.val + 1 ≤ t.val
          omega)

variable {R DX XI Z B C W}

/-- Before trip `n` of the loop: the states are the scan's before step `4 n`, and the rows of the steps before it hold
their contribution over what the buffer held. -/
theorem st_inv (hR : ∀ k u, ld40 arg3 X3 k u = R (4 * k.val + u.val)) (hDX : ∀ k u, ld40 arg4 X4 k u = DX (4 * k.val + u.val))
    (hXI : ∀ k u, ld40 arg5 X5 k u = XI (4 * k.val + u.val)) (hZ : ∀ k u, ld40 arg6 X6 k u = Z (4 * k.val + u.val))
    (hB : ∀ k u, ld32 arg7 X7 k u = B (4 * k.val + u.val)) (hC : ∀ k u, ld32 arg8 X8 k u = C (4 * k.val + u.val))
    (hW : ldW arg9 X9 = W) (G : BufTy.Contents (Elt Ideal) arg10.view.ty) (init : Carry Ideal)
    (hinit : ∀ s < 32, tget 31 init s = zero40) : ∀ n, n ≤ k1_t1_loop.trips →
      (∀ s < 32, tget 31 (st_k1_t1 (F := Ideal) 𝒱 c bd i arg3 harg3 arg4 harg4 arg5 harg5 arg6 harg6 arg7 harg7 arg8 harg8 arg9 harg9 arg10 harg10 arg11 harg11 X3 X4 X5 X6 X7 X8 X9 G init n).1 s = hs R DX B (4 * n) s)
      ∧ ∀ (t : Fin 200) (o : Fin 8) (b : Fin 128),
        arg10.view.read (Elt Ideal) (arg10.view.writes (Elt Ideal) G (st_k1_t1 (F := Ideal) 𝒱 c bd i arg3 harg3 arg4 harg4 arg5 harg5 arg6 harg6 arg7 harg7 arg8 harg8 arg9 harg9 arg10 harg10 arg11 harg11 X3 X4 X5 X6 X7 X8 X9 G init n).2) (ix4 0 t o b)
          = if h : t.val < 4 * n ∧ o.val < 7 then
              (arg10.view.read (Elt Ideal) G (ix4 0 t o b) + opAt R DX XI Z B C W t.val (ix2 ⟨o.val, h.2⟩ b) : EReal)
            else arg10.view.read (Elt Ideal) G (ix4 0 t o b) := by
  intro n
  induction n with
  | zero => exact fun _ => ⟨hinit, fun t o b => by rw [dif_neg (by omega)]; rfl⟩
  | succ n ih =>
    intro hn
    obtain ⟨ih1, ih2⟩ := ih (by omega)
    have hsucc := st_k1_t1_succ (F := Ideal) 𝒱 c bd i arg3 harg3 arg4 harg4 arg5 harg5 arg6 harg6 arg7 harg7 arg8 harg8 arg9 harg9 arg10 harg10 arg11 harg11 X3 X4 X5 X6 X7 X8 X9 G init ⟨n, hn⟩
    rw [tripR_eq, tripL_eq] at hsucc
    generalize st_k1_t1 (F := Ideal) 𝒱 c bd i arg3 harg3 arg4 harg4 arg5 harg5 arg6 harg6 arg7 harg7 arg8 harg8 arg9 harg9 arg10 harg10 arg11 harg11 X3 X4 X5 X6 X7 X8 X9 G init n = S at hsucc ih1 ih2
    rw [hsucc]
    obtain ⟨S1, S2⟩ := S
    simp only at ih1 ih2 ⊢
    simp only [rep, hR, hDX, hXI, hZ, hB, hC, hW]
    have e1 : ∀ s < 32, newH (R (4 * n + 0)) (DX (4 * n + 0)) (B (4 * n + 0)) (tget 31 S1) s = hs R DX B (4 * n + 1) s :=
      fun s hs' => by
        show _ = newH _ _ _ _ s
        unfold newH
        rw [ih1 s hs']
        rfl
    have nx : ∀ m (g : ℕ → FVec Ideal S40x128 .f32), (∀ s < 32, g s = hs R DX B m s) →
        ∀ s < 32, newH (R m) (DX m) (B m) g s = hs R DX B (m + 1) s := fun m g hg s hs' => by
      show _ = newH _ _ _ _ s
      unfold newH
      rw [hg s hs']
    have e2 := nx (4 * n + 1) _ e1
    have e3 := nx (4 * n + 2) _ e2
    have e4 := nx (4 * n + 3) _ e3
    refine ⟨fun s hs' => (tget_tmk 31 s _ (by omega)).trans (e4 s hs'), fun t o b => ?_⟩
    have hop : ∀ m (g : ℕ → FVec Ideal S40x128 .f32), (∀ s < 32, g s = hs R DX B (m + 1) s) →
        opRow W (accUp (C m) g 32) (XI m) (Z m) = opAt R DX XI Z B C W m := fun m g hg => by
      unfold opAt
      rw [accUp_congr (C m) g (hs R DX B (m + 1)) 32 hg]
    have o1 := hop (4 * n + 0) _ e1
    have o2 := hop (4 * n + 1) _ e2
    have o3 := hop (4 * n + 2) _ e3
    have o4 := hop (4 * n + 3) _ e4
    rw [View.writes_append]
    have fin : ∀ (u : ℕ) (h : t.val = 4 * n + u ∧ o.val < 7) (hu : u < 4) (v : FVec Ideal S7x128 .f32), v = opAt R DX XI Z B C W (4 * n + u) →
        (arg10.view.read (Elt Ideal) (arg10.view.writes (Elt Ideal) G S2) (ix4 0 t o b) + v (ix2 ⟨o.val, h.2⟩ b) : EReal)
        = if h : t.val < 4 * (n + 1) ∧ o.val < 7 then
              (arg10.view.read (Elt Ideal) G (ix4 0 t o b) + opAt R DX XI Z B C W t.val (ix2 ⟨o.val, h.2⟩ b) : EReal)
            else arg10.view.read (Elt Ideal) G (ix4 0 t o b) := by
      intro u h hu v hv
      rw [ih2, dif_neg (by omega), dif_pos ⟨by omega, h.2⟩, hv]
      exact congrArg (fun m => (arg10.view.read (Elt Ideal) G (ix4 0 t o b) + opAt R DX XI Z B C W m (ix2 ⟨o.val, h.2⟩ b) : EReal)) h.1.symm
    refine (read_row arg10 _ _ ⟨n, hn⟩ 3 _ _ t o b).trans ?_
    by_cases h3 : t.val = 4 * n + 3 ∧ o.val < 7
    · exact (dif_pos h3).trans <| fin 3 h3 (by omega) _ o4
    refine (dif_neg h3).trans ?_
    refine (read_row arg10 _ _ ⟨n, hn⟩ 2 _ _ t o b).trans ?_
    by_cases h2 : t.val = 4 * n + 2 ∧ o.val < 7
    · exact (dif_pos h2).trans <| fin 2 h2 (by omega) _ o3
    refine (dif_neg h2).trans ?_
    refine (read_row arg10 _ _ ⟨n, hn⟩ 1 _ _ t o b).trans ?_
    by_cases h1 : t.val = 4 * n + 1 ∧ o.val < 7
    · exact (dif_pos h1).trans <| fin 1 h1 (by omega) _ o2
    refine (dif_neg h1).trans ?_
    refine (read_row arg10 _ _ ⟨n, hn⟩ 0 _ _ t o b).trans ?_
    by_cases h0 : t.val = 4 * n + 0 ∧ o.val < 7
    · exact (dif_pos h0).trans <| fin 0 h0 (by omega) _ o1
    refine (dif_neg h0).trans ?_
    refine (ih2 t o b).trans ?_
    by_cases hh : t.val < 4 * n ∧ o.val < 7
    · rw [dif_pos hh, dif_pos ⟨by omega, hh.2⟩]
    · rw [dif_neg hh, dif_neg (by omega)]

end Cert.KernelIdeal.Scan
end
-- ==== Proof.ScanScalar.lean ====
/- The scan's blocks at an index: each channel of each batch row runs the scalar scan. -/
module

public import proofs.«01_k».proof.Proof.LoopVal
public import proofs.«01_k».proof.Proof.Spec
public import Idealize.ShloMosaic.Lib.Pointwise
public import Idealize.ShloMosaic.Lib.Pipeline.ValueKit

@[expose] public section

set_option maxRecDepth 16384

noncomputable section

namespace Cert.KernelIdeal.Scan

open Idealize.ShloMosaic Idealize.ShloMosaic.TcCoe Idealize.ShloMosaic.Tactic Cert.KernelIdeal Cert.KernelIdeal.Gen Cert.Spec

/-- A row of the states' block, at an index. -/
theorem bcRow_at (M : FVec Ideal S32x128 .f32) (s : ℕ) (d : Fin 40) (b : Fin 128) :
    bcRow M s (ix2 d b) = M (ix2 ⟨s % 32, Nat.mod_lt _ (by decide)⟩ b) := by
  pointwise [bcRow]

/-- A power, at an index. -/
theorem pw_at (r : FVec Ideal S40x128 .f32) (d : Fin 40) (b : Fin 128) : ∀ s, pw r s (ix2 d b) = pwS (r (ix2 d b)) s
  | 0 => rfl
  | s + 1 => congrArg (· * r (ix2 d b)) (pw_at r d b s)

variable (R DX XI Z : ℕ → FVec Ideal S40x128 .f32) (B C : ℕ → FVec Ideal S32x128 .f32) (W : FVec Ideal S7x40 .f32)

/-- The states before a step, at an index. -/
theorem hs_at (d : Fin 40) (b : Fin 128) : ∀ t s, hs R DX B t s (ix2 d b)
    = hK (fun t => R t (ix2 d b)) (fun t => DX t (ix2 d b)) (fun t s => B t (ix2 ⟨s % 32, Nat.mod_lt _ (by decide)⟩ b)) t s
  | 0, s => by
    show zero40 (ix2 d b) = 0
    pointwise [zero40]
  | t + 1, s => by
    show hs R DX B t s (ix2 d b) * pw (R t) s (ix2 d b) + DX t (ix2 d b) * bcRow (B t) s (ix2 d b) = _
    rw [hs_at d b t s, pw_at, bcRow_at]
    rfl

/-- The sum over the first states, at an index. -/
theorem accUp_at (M : FVec Ideal S32x128 .f32) (h : ℕ → FVec Ideal S40x128 .f32) (d : Fin 40) (b : Fin 128) : ∀ n, accUp M h n (ix2 d b)
    = ∑ s ∈ Finset.range n, h s (ix2 d b) * M (ix2 ⟨s % 32, Nat.mod_lt _ (by decide)⟩ b)
  | 0 => by
    show (broadcast S40x128 (Scalar.ofBits (F := Ideal) .f32 0x00000000#32) : FVec Ideal S40x128 .f32) (ix2 d b) = _
    rw [Finset.sum_range_zero]
    pointwise
  | n + 1 => by
    rw [Finset.sum_range_succ, ← accUp_at M h d b n, ← bcRow_at M n d b]
    rfl

/-- The gated step of a channel. -/
theorem gated_at (t : ℕ) (d : Fin 40) (b : Fin 128) :
    mulf (addf (accUp (C t) (hs R DX B (t + 1)) 32) (XI t)) (Z t) (ix2 d b)
      = yK (fun t => R t (ix2 d b)) (fun t => DX t (ix2 d b)) (fun t => XI t (ix2 d b)) (fun t => Z t (ix2 d b))
          (fun t s => B t (ix2 ⟨s % 32, Nat.mod_lt _ (by decide)⟩ b)) (fun t s => C t (ix2 ⟨s % 32, Nat.mod_lt _ (by decide)⟩ b)) t := by
  show (accUp (C t) (hs R DX B (t + 1)) 32 (ix2 d b) + XI t (ix2 d b)) * Z t (ix2 d b) = _
  rw [accUp_at, Finset.sum_range]
  simp only [hs_at]
  rfl

/-- A step's contribution: the sum over the forty channels. -/
theorem opAt_at (t : ℕ) (o : Fin 7) (b : Fin 128) : opAt R DX XI Z B C W t (ix2 o b)
    = ∑ d : Fin 40, W (ix2 o d) * yK (fun t => R t (ix2 d b)) (fun t => DX t (ix2 d b)) (fun t => XI t (ix2 d b)) (fun t => Z t (ix2 d b))
          (fun t s => B t (ix2 ⟨s % 32, Nat.mod_lt _ (by decide)⟩ b)) (fun t s => C t (ix2 ⟨s % 32, Nat.mod_lt _ (by decide)⟩ b)) t := by
  unfold opAt opRow
  simp only [← gated_at]
  generalize mulf (addf (accUp (C t) (hs R DX B (t + 1)) 32) (XI t)) (Z t) = q
  pointwise

/-- A step's row of a block of forty channels. -/
def row40 (x : FVec Ideal S1x200x40x128 .f32) (t : ℕ) : FVec Ideal S40x128 .f32 := fun j => x (ix4 0 ⟨t % 200, Nat.mod_lt _ (by decide)⟩ (j 0) (j 1))

/-- A step's row of a block of thirty-two states. -/
def row32 (x : FVec Ideal S1x200x32x128 .f32) (t : ℕ) : FVec Ideal S32x128 .f32 := fun j => x (ix4 0 ⟨t % 200, Nat.mod_lt _ (by decide)⟩ (j 0) (j 1))

/-- The projection's block as a matrix. -/
def mat7 (x : FVec Ideal S1x1x7x40 .f32) : FVec Ideal S7x40 .f32 := fun j => x (ix4 0 0 (j 0) (j 1))

/-- A load of forty channels is the step's row. -/
theorem ld40_eq (M : Memref sig .tc .vmem S1x200x40x128 .f32) (hM : M.IsWhole) (x : FVec Ideal S1x200x40x128 .f32) (k : Fin k1_t1_loop.trips) (u : Fin 4) :
    ld40 M (hM.unread (Val := Elt Ideal) x) k u = row40 x (4 * k.val + u.val) := by
  funext j
  have hk : k.val < 50 := lt_of_lt_of_le k.isLt k1_t1_abs.2.1
  have sc : ∀ v : FVec Ideal S1x1x40x128 .f32, shapeCast S40x128 v shapeCasts_S1x1x40x128_S40x128 j = v (ix4 0 0 (j 0) (j 1)) := by
    intro v
    idx_vars j
    pointwise
  refine (sc _).trans ?_
  refine (congrFun (hM.read_unread (Val := Elt Ideal) x) _).trans ?_
  refine congrArg x (funext fun a => Fin.ext ?_)
  have e := k1_off1_eq k u
  match a with
  | ⟨0, _⟩ => show k1_off1 k (BitVec.ofNat 32 u.val) 0 + 1 * 0 = 0; rw [e]; rfl
  | ⟨1, _⟩ => show k1_off1 k (BitVec.ofNat 32 u.val) 1 + 1 * 0 = (4 * k.val + u.val) % 200; rw [e]; show 4 * k.val + u.val + 1 * 0 = (4 * k.val + u.val) % 200; omega
  | ⟨2, _⟩ => show k1_off1 k (BitVec.ofNat 32 u.val) 2 + 1 * (j 0).val = (j 0).val; rw [e]; show 0 + 1 * (j 0).val = (j 0).val; omega
  | ⟨3, _⟩ => show k1_off1 k (BitVec.ofNat 32 u.val) 3 + 1 * (j 1).val = (j 1).val; rw [e]; show 0 + 1 * (j 1).val = (j 1).val; omega

/-- A load of thirty-two states is the step's row. -/
theorem ld32_eq (M : Memref sig .tc .vmem S1x200x32x128 .f32) (hM : M.IsWhole) (x : FVec Ideal S1x200x32x128 .f32) (k : Fin k1_t1_loop.trips) (u : Fin 4) :
    ld32 M (hM.unread (Val := Elt Ideal) x) k u = row32 x (4 * k.val + u.val) := by
  funext j
  have hk : k.val < 50 := lt_of_lt_of_le k.isLt k1_t1_abs.2.1
  have sc : ∀ v : FVec Ideal S1x1x32x128 .f32, shapeCast S32x128 v shapeCasts_S1x1x32x128_S32x128 j = v (ix4 0 0 (j 0) (j 1)) := by
    intro v
    idx_vars j
    pointwise
  refine (sc _).trans ?_
  refine (congrFun (hM.read_unread (Val := Elt Ideal) x) _).trans ?_
  refine congrArg x (funext fun a => Fin.ext ?_)
  have e := k1_off2_eq k u
  match a with
  | ⟨0, _⟩ => show k1_off2 k (BitVec.ofNat 32 u.val) 0 + 1 * 0 = 0; rw [e]; rfl
  | ⟨1, _⟩ => show k1_off2 k (BitVec.ofNat 32 u.val) 1 + 1 * 0 = (4 * k.val + u.val) % 200; rw [e]; show 4 * k.val + u.val + 1 * 0 = (4 * k.val + u.val) % 200; omega
  | ⟨2, _⟩ => show k1_off2 k (BitVec.ofNat 32 u.val) 2 + 1 * (j 0).val = (j 0).val; rw [e]; show 0 + 1 * (j 0).val = (j 0).val; omega
  | ⟨3, _⟩ => show k1_off2 k (BitVec.ofNat 32 u.val) 3 + 1 * (j 1).val = (j 1).val; rw [e]; show 0 + 1 * (j 1).val = (j 1).val; omega

/-- The load of the projection's block. -/
theorem ldW_eq (M : Memref sig .tc .vmem S1x1x7x40 .f32) (hM : M.IsWhole) (x : FVec Ideal S1x1x7x40 .f32) :
    ldW M (hM.unread (Val := Elt Ideal) x) = mat7 x := by
  funext j
  have sc : ∀ v : FVec Ideal S1x1x7x40 .f32, shapeCast S7x40 v shapeCasts_S1x1x7x40_S7x40 j = v (ix4 0 0 (j 0) (j 1)) := by
    intro v
    idx_vars j
    pointwise
  refine (sc _).trans ?_
  refine (congrFun (hM.read_unread (Val := Elt Ideal) x) _).trans ?_
  refine congrArg x (funext fun a => Fin.ext ?_)
  match a with
  | ⟨0, _⟩ => rfl
  | ⟨1, _⟩ => rfl
  | ⟨2, _⟩ => show 0 + 1 * (j 0).val = (j 0).val; omega
  | ⟨3, _⟩ => show 0 + 1 * (j 1).val = (j 1).val; omega

/-- The statistics' first row: the sum over time. -/
theorem pay10_at (x : FVec Ideal S1x200x8x128 .f32) (o : Fin 8) (b : Fin 128) : k1_pay10 (F := Ideal) x (ix5 0 0 0 o b) = ∑ l : Fin 200, x (ix4 0 l o b) := by
  pointwise [k1_pay10, k1_pay9]

/-- The statistics' second row: the sum of squares over time. -/
theorem pay11_at (x : FVec Ideal S1x200x8x128 .f32) (o : Fin 8) (b : Fin 128) : k1_pay11 (F := Ideal) x (ix5 0 0 0 o b) = ∑ l : Fin 200, x (ix4 0 l o b) * x (ix4 0 l o b) := by
  pointwise [k1_pay11, k1_pay9]

end Cert.KernelIdeal.Scan
end
-- ==== Proof.Region1.lean ====
/- The second call's body: what a grid point adds to its output block, and the statistics of the last. -/
module

public import proofs.«01_k».proof.Proof.Gen.KernelIdeal.Frame
public import proofs.«01_k».proof.Proof.ScanScalar

@[expose] public section

set_option maxRecDepth 16384

noncomputable section

namespace Cert.KernelIdeal.Scan

open Idealize.ShloMosaic Idealize.ShloMosaic.TcCoe Idealize.ShloMosaic.Tactic Cert.KernelIdeal Cert.KernelIdeal.Gen Cert.Spec
open Idealize.SL Idealize.SL.Sem

/-- The states before the loop. -/
def start : Carry Ideal := (k1_pay341, k1_pay342, k1_pay343, k1_pay344, k1_pay345, k1_pay346, k1_pay347, k1_pay348, k1_pay349, k1_pay350, k1_pay351, k1_pay352, k1_pay353, k1_pay354, k1_pay355, k1_pay356, k1_pay357, k1_pay358, k1_pay359, k1_pay360, k1_pay361, k1_pay362, k1_pay363, k1_pay364, k1_pay365, k1_pay1 (Scalar.ofBits .f32 0x00000000#32), k1_pay2, k1_pay3, k1_pay4, k1_pay5, k1_pay6, k1_pay7)

/-- They are zero. -/
theorem start_zero : ∀ s < 32, tget 31 start s = zero40 := by
  intro s hs
  interval_cases s <;> rfl

/-- What a point's blocks add to a row. -/
def con (x0 x1 x2 x3 : FVec Ideal S1x200x40x128 .f32) (x4 x5 : FVec Ideal S1x200x32x128 .f32) (x6 : FVec Ideal S1x1x7x40 .f32)
    (l : Fin 200) (o : Fin 8) (b : Fin 128) : EReal :=
  if h : o.val < 7 then opAt (row40 x0) (row40 x1) (row40 x2) (row40 x3) (row32 x4) (row32 x5) (mat7 x6) l.val (ix2 ⟨o.val, h⟩ b) else 0

variable (𝒱 : Variants) (c : Dev nD) (bd : Option 𝒱.V) (i : grid1.Coords)
  (arg3 : Memref sig .tc .vmem S1x200x40x128 .f32) (harg3 : arg3.IsWhole)
  (arg4 : Memref sig .tc .vmem S1x200x40x128 .f32) (harg4 : arg4.IsWhole)
  (arg5 : Memref sig .tc .vmem S1x200x40x128 .f32) (harg5 : arg5.IsWhole)
  (arg6 : Memref sig .tc .vmem S1x200x40x128 .f32) (harg6 : arg6.IsWhole)
  (arg7 : Memref sig .tc .vmem S1x200x32x128 .f32) (harg7 : arg7.IsWhole)
  (arg8 : Memref sig .tc .vmem S1x200x32x128 .f32) (harg8 : arg8.IsWhole)
  (arg9 : Memref sig .tc .vmem S1x1x7x40 .f32) (harg9 : arg9.IsWhole)
  (arg10 : Memref sig .tc .vmem S1x200x8x128 .f32) (harg10 : arg10.IsWhole)
  (arg11 : Memref sig .tc .vmem S1x1x2x8x128 .f32) (harg11 : arg11.IsWhole)
  (x0 x1 x2 x3 : FVec Ideal S1x200x40x128 .f32) (x4 x5 : FVec Ideal S1x200x32x128 .f32) (x6 : FVec Ideal S1x1x7x40 .f32)

/-- The loop adds the point's contribution to every row. -/
theorem loop_read (G : BufTy.Contents (Elt Ideal) arg10.view.ty) (l : Fin 200) (o : Fin 8) (b : Fin 128) :
    arg10.view.read (Elt Ideal) (arg10.view.writes (Elt Ideal) G
      (st_k1_t1 (F := Ideal) 𝒱 c bd i arg3 harg3 arg4 harg4 arg5 harg5 arg6 harg6 arg7 harg7 arg8 harg8 arg9 harg9 arg10 harg10 arg11 harg11 (harg3.unread (Val := Elt Ideal) x0) (harg4.unread (Val := Elt Ideal) x1) (harg5.unread (Val := Elt Ideal) x2) (harg6.unread (Val := Elt Ideal) x3) (harg7.unread (Val := Elt Ideal) x4) (harg8.unread (Val := Elt Ideal) x5) (harg9.unread (Val := Elt Ideal) x6) G start (Scf.trips 0#32 (Scalar.addi 0#32 50#32) 1#32)).2) (ix4 0 l o b)
      = arg10.view.read (Elt Ideal) G (ix4 0 l o b) + con x0 x1 x2 x3 x4 x5 x6 l o b := by
  have ht : k1_t1_loop.trips = 50 := by decide
  refine ((st_inv 𝒱 c bd i arg3 harg3 arg4 harg4 arg5 harg5 arg6 harg6 arg7 harg7 arg8 harg8 arg9 harg9 arg10 harg10 arg11 harg11 (harg3.unread (Val := Elt Ideal) x0) (harg4.unread (Val := Elt Ideal) x1) (harg5.unread (Val := Elt Ideal) x2) (harg6.unread (Val := Elt Ideal) x3) (harg7.unread (Val := Elt Ideal) x4) (harg8.unread (Val := Elt Ideal) x5) (harg9.unread (Val := Elt Ideal) x6)
    (ld40_eq arg3 harg3 x0) (ld40_eq arg4 harg4 x1) (ld40_eq arg5 harg5 x2) (ld40_eq arg6 harg6 x3) (ld32_eq arg7 harg7 x4) (ld32_eq arg8 harg8 x5)
    (ldW_eq arg9 harg9 x6) G start start_zero k1_t1_loop.trips le_rfl).2 l o b).trans ?_
  unfold con
  by_cases h : o.val < 7
  · rw [dif_pos h, dif_pos (by rw [ht]; omega)]
  · rw [dif_neg h, dif_neg (fun e => h e.2), add_zero]

variable (V : (c : Dev nD) → (b : Ref sig .tc) → Buf (Elt Ideal) ((c : Thread nD τ).loc b))

/-- A grid point's block of the decays. -/
def X0 (t : Fin cfg1.N) : FVec Ideal S1x200x40x128 .f32 := iblk1 V c 0 t

/-- A grid point's block of the scaled inputs. -/
def X1 (t : Fin cfg1.N) : FVec Ideal S1x200x40x128 .f32 := iblk1 V c 1 t

/-- A grid point's block of the weighted inputs. -/
def X2 (t : Fin cfg1.N) : FVec Ideal S1x200x40x128 .f32 := iblk1 V c 2 t

/-- A grid point's block of the gates. -/
def X3 (t : Fin cfg1.N) : FVec Ideal S1x200x40x128 .f32 := iblk1 V c 3 t

/-- A grid point's block of the input matrix. -/
def X4 (t : Fin cfg1.N) : FVec Ideal S1x200x32x128 .f32 := iblk1 V c 4 t

/-- A grid point's block of the output matrix. -/
def X5 (t : Fin cfg1.N) : FVec Ideal S1x200x32x128 .f32 := iblk1 V c 5 t

/-- A grid point's block of the projection. -/
def X6 (t : Fin cfg1.N) : FVec Ideal S1x1x7x40 .f32 := iblk1 V c 6 t

/-- What a grid point adds to its output block. -/
def conAt (t : Fin cfg1.N) (l : Fin 200) (o : Fin 8) (b : Fin 128) : EReal := con (X0 c V t) (X1 c V t) (X2 c V t) (X3 c V t) (X4 c V t) (X5 c V t) (X6 c V t) l o b

/-- The output block after the first point of a run: its contribution. -/
theorem first (t : Fin cfg1.N) (h0 : t.val % 4 = 0) (l : Fin 200) (o : Fin 8) (b : Fin 128) :
    (outsAt1 V c t.val t.isLt).1 (ix4 0 l o b) = 0 + conAt c V t l o b := by
  rw [outsAt1_A V c t h0 (by omega)]
  frame_out
  refine (View.read_writes_junk_apply_eq_canon (Val := Elt Ideal) (ms1_7 t).view (ix4 0 l o b) _).symm.trans ?_
  rw [View.writes_append]
  refine (loop_read Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (X0 c V t) (X1 c V t) (X2 c V t) (X3 c V t) (X4 c V t) (X5 c V t) (X6 c V t) _ l o b).trans ?_
  refine congrArg (· + conAt c V t l o b) ?_
  refine (View.read_writes_cons_unit_of_mem (ms1_7 t).view _ (size := ![1, 200, 8, 128]) inb_S1x200x8x128_S1x200x8x128_0_0_0_0 _ [] (ix4 0 l o b)
    (ix4 0 l o b : (⟨4, ![1, 200, 8, 128]⟩ : Shape).Idx) rfl (fun a => by
      match a with
      | ⟨0, _⟩ => rfl
      | ⟨1, _⟩ => show l.val = 0 + l.val; omega
      | ⟨2, _⟩ => show o.val = 0 + o.val; omega
      | ⟨3, _⟩ => show b.val = 0 + b.val; omega)).trans ?_
  have z : ∀ j : S1x200x8x128.Idx, k1_pay340 (F := Ideal) j = 0 := by
    intro j
    idx_vars j
    pointwise [k1_pay340]
  exact z _

/-- The output block after a later point of a run. -/
theorem later (t : Fin cfg1.N) (h0 : ¬t.val % 4 = 0) (l : Fin 200) (o : Fin 8) (b : Fin 128) :
    (outsAt1 V c t.val t.isLt).1 (ix4 0 l o b) = (outsAt1 V c (t.val - 1) (lt_of_le_of_lt (Nat.sub_le _ _) t.isLt)).1 (ix4 0 l o b) + conAt c V t l o b := by
  have key : ∀ x : FVec Ideal S1x200x8x128 .f32, (ms1_7 t).view.read (Elt Ideal) ((hs1_7 t).unread (Val := Elt Ideal) x) (ix4 0 l o b) = x (ix4 0 l o b) :=
    fun x => congrFun ((hs1_7 t).read_unread (Val := Elt Ideal) x) _
  by_cases h1 : t.val % 4 = 3
  · rw [outsAt1_C V c t h0 h1]
    frame_out
    refine (loop_read Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (X0 c V t) (X1 c V t) (X2 c V t) (X3 c V t) (X4 c V t) (X5 c V t) (X6 c V t) _ l o b).trans ?_
    exact congrArg (· + conAt c V t l o b) (key _)
  · rw [outsAt1_B V c t h0 h1]
    frame_out
    refine (loop_read Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (X0 c V t) (X1 c V t) (X2 c V t) (X3 c V t) (X4 c V t) (X5 c V t) (X6 c V t) _ l o b).trans ?_
    exact congrArg (· + conAt c V t l o b) (key _)

/-- The two rows that the statistics' stores leave. -/
theorem two_rows (P Q : FVec Ideal S1x1x1x8x128 .f32) (o : Fin 8) (b : Fin 128) :
    View.canon (Val := Elt Ideal) [(⟨Rect.unit (s := S1x1x2x8x128) ![0, 0, 1, 0, 0] ![1, 1, 1, 8, 128] inb_S1x1x2x8x128_S1x1x1x8x128_0_0_1_0_0, P⟩ : View.Piece (Elt Ideal) S1x1x2x8x128 .f32),
      ⟨Rect.unit (s := S1x1x2x8x128) ![0, 0, 0, 0, 0] ![1, 1, 1, 8, 128] inb_S1x1x2x8x128_S1x1x1x8x128_0_0_0_0_0, Q⟩] (ix5 0 0 0 o b) = Q (ix5 0 0 0 o b)
    ∧ View.canon (Val := Elt Ideal) [(⟨Rect.unit (s := S1x1x2x8x128) ![0, 0, 1, 0, 0] ![1, 1, 1, 8, 128] inb_S1x1x2x8x128_S1x1x1x8x128_0_0_1_0_0, P⟩ : View.Piece (Elt Ideal) S1x1x2x8x128 .f32),
      ⟨Rect.unit (s := S1x1x2x8x128) ![0, 0, 0, 0, 0] ![1, 1, 1, 8, 128] inb_S1x1x2x8x128_S1x1x1x8x128_0_0_0_0_0, Q⟩] (ix5 0 0 1 o b) = P (ix5 0 0 0 o b) := by
  constructor
  · refine (View.read_writes_junk_apply_eq_canon (Val := Elt Ideal) VO1_8 _ _).symm.trans ?_
    refine (View.read_writes_cons_unit_of_not_mem VO1_8 _ _ _ _ (ix5 0 0 0 o b) rfl 2 (Or.inl (show 0 < 1 by omega))).trans ?_
    exact View.read_writes_cons_unit_of_mem VO1_8 _ (size := ![1, 1, 1, 8, 128]) inb_S1x1x2x8x128_S1x1x1x8x128_0_0_0_0_0 _ [] (ix5 0 0 0 o b)
      (ix5 0 0 0 o b : (⟨5, ![1, 1, 1, 8, 128]⟩ : Shape).Idx) rfl (fun a => by
      match a with
      | ⟨0, _⟩ => rfl
      | ⟨1, _⟩ => rfl
      | ⟨2, _⟩ => rfl
      | ⟨3, _⟩ => show o.val = 0 + o.val; omega
      | ⟨4, _⟩ => show b.val = 0 + b.val; omega)
  · refine (View.read_writes_junk_apply_eq_canon (Val := Elt Ideal) VO1_8 _ _).symm.trans ?_
    exact View.read_writes_cons_unit_of_mem VO1_8 _ (size := ![1, 1, 1, 8, 128]) inb_S1x1x2x8x128_S1x1x1x8x128_0_0_1_0_0 _ _ (ix5 0 0 1 o b)
      (ix5 0 0 0 o b : (⟨5, ![1, 1, 1, 8, 128]⟩ : Shape).Idx) rfl (fun a => by
      match a with
      | ⟨0, _⟩ => rfl
      | ⟨1, _⟩ => rfl
      | ⟨2, _⟩ => rfl
      | ⟨3, _⟩ => show o.val = 0 + o.val; omega
      | ⟨4, _⟩ => show b.val = 0 + b.val; omega)

/-- The statistics after the last point of a run: the sums over time of the output block and of its squares. -/
theorem stats (t : Fin cfg1.N) (h1 : t.val % 4 = 3) (o : Fin 8) (b : Fin 128) :
    (outsAt1 V c t.val t.isLt).2 (ix5 0 0 0 o b) = ∑ l : Fin 200, (outsAt1 V c t.val t.isLt).1 (ix4 0 l o b)
    ∧ (outsAt1 V c t.val t.isLt).2 (ix5 0 0 1 o b) = ∑ l : Fin 200, (outsAt1 V c t.val t.isLt).1 (ix4 0 l o b) * (outsAt1 V c t.val t.isLt).1 (ix4 0 l o b) := by
  have h0 : ¬t.val % 4 = 0 := by omega
  simp only [later c V t h0]
  have key : ∀ x : FVec Ideal S1x200x8x128 .f32, ∀ (l : Fin 200), (ms1_7 t).view.read (Elt Ideal) ((hs1_7 t).unread (Val := Elt Ideal) x) (ix4 0 l o b) = x (ix4 0 l o b) :=
    fun x l => congrFun ((hs1_7 t).read_unread (Val := Elt Ideal) x) _
  have row := fun (G : BufTy.Contents (Elt Ideal) (ms1_7 t).view.ty) (l : Fin 200) => loop_read Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (X0 c V t) (X1 c V t) (X2 c V t) (X3 c V t) (X4 c V t) (X5 c V t) (X6 c V t) G l o b
  rw [outsAt1_C V c t h0 h1]
  constructor
  · frame_out
    refine (two_rows _ _ o b).1.trans ((pay10_at _ o b).trans (Finset.sum_congr rfl fun l _ => (row _ l).trans ?_))
    exact congrArg (· + conAt c V t l o b) (key _ l)
  · frame_out
    refine (two_rows _ _ o b).2.trans ((pay11_at _ o b).trans (Finset.sum_congr rfl fun l _ => ?_))
    have e := (row ((hs1_7 t).unread (Val := Elt Ideal) (outsAt1 V c (t.val - 1) (lt_of_le_of_lt (Nat.sub_le _ _) t.isLt)).1) l).trans (congrArg (· + conAt c V t l o b) (key _ l))
    exact congrArg₂ (· * ·) e e

end Cert.KernelIdeal.Scan
end
-- ==== Proof.Region1Out.lean ====
/- The second call: the arrays it leaves, over the arrays it finds. -/
module

public import proofs.«01_k».proof.Proof.Region1
public import proofs.«01_k».proof.Proof.PostSpec

@[expose] public section

set_option maxRecDepth 16384

noncomputable section

namespace Cert.KernelIdeal.Scan

open Idealize.ShloMosaic Idealize.ShloMosaic.TcCoe Idealize.ShloMosaic.Tactic Cert.KernelIdeal Cert.KernelIdeal.Gen Cert.Spec Cert.KernelIdeal.Proj
open Idealize.SL Idealize.SL.Sem

/-- The blocks that the windows take at a grid point. -/
theorem idx : ∀ t : Fin cfg1.N, win1_0.index t = ![t.val / 16, 0, t.val % 4, t.val / 4 % 4] ∧ win1_1.index t = ![t.val / 16, 0, t.val % 4, t.val / 4 % 4]
    ∧ win1_2.index t = ![t.val / 16, 0, t.val % 4, t.val / 4 % 4] ∧ win1_3.index t = ![t.val / 16, 0, t.val % 4, t.val / 4 % 4]
    ∧ win1_4.index t = ![t.val / 16, 0, 0, t.val / 4 % 4] ∧ win1_5.index t = ![t.val / 16, 0, 0, t.val / 4 % 4] ∧ win1_6.index t = ![t.val / 16, t.val % 4, 0, 0]
    ∧ win1_7.index t = ![t.val / 16, 0, 0, t.val / 4 % 4] ∧ win1_8.index t = ![t.val / 16, t.val / 4 % 4, 0, 0, 0] :=
  (by decide +kernel : ∀ t : Fin grid1.N, _)

/-- The branch that a grid point works on. -/
def nOf (t : Fin cfg1.N) : Fin 5 := ⟨t.val / 16, by have h : t.val < 80 := t.isLt; omega⟩

/-- The batch row that a lane of a grid point's block is. -/
def bOf (t : Fin cfg1.N) (b : Fin 128) : Fin 512 := ⟨128 * (t.val / 4 % 4) + b.val, by omega⟩

/-- The group of channels that a grid point works on. -/
def kOf (t : Fin cfg1.N) : Fin 4 := ⟨t.val % 4, by omega⟩

/-- The channel, among the padded ones, that a row of a grid point's block is. -/
def dOf (t : Fin cfg1.N) (d : Fin 40) : Fin 160 := ⟨40 * (t.val % 4) + d.val, by omega⟩

variable (V : (c : Dev nD) → (b : Ref sig .tc) → Buf (Elt Ideal) ((c : Thread nD τ).loc b)) (c : Dev nD)

/-- The arrays that the call finds. -/
structure Entry (I : In) : Prop where
  r (n : Fin 5) (l : Fin 200) (d : Fin 160) (b : Fin 512) : (V c main_call0_v25 : FVec Ideal S5x200x160x512 .f32) (ix4 n l d b) = ext (fun d => Ideal.exp (-(deltaK I n b l d))) d.val
  dx (n : Fin 5) (l : Fin 200) (d : Fin 160) (b : Fin 512) : (V c main_call0_v27 : FVec Ideal S5x200x160x512 .f32) (ix4 n l d b) = ext (fun d => deltaK I n b l d * xi I n b l d) d.val
  wx (n : Fin 5) (l : Fin 200) (d : Fin 160) (b : Fin 512) : (V c main_call0_v29 : FVec Ideal S5x200x160x512 .f32) (ix4 n l d b) = ext (fun d => I.dp n d * xi I n b l d) d.val
  z (n : Fin 5) (l : Fin 200) (d : Fin 160) (b : Fin 512) : (V c main_call0_v31 : FVec Ideal S5x200x160x512 .f32) (ix4 n l d b) = ext (fun d => zs I n b l d) d.val
  bm (n : Fin 5) (l : Fin 200) (s : Fin 32) (b : Fin 512) : (V c main_call0_v32 : FVec Ideal S5x200x32x512 .f32) (ix4 n l s b) = bm I n b l s
  cm (n : Fin 5) (l : Fin 200) (s : Fin 32) (b : Fin 512) : (V c main_call0_v33 : FVec Ideal S5x200x32x512 .f32) (ix4 n l s b) = cm I n b l s
  ow (n : Fin 5) (k : Fin 4) (o : Fin 7) (d : Fin 40) : (V c main_call0_v36 : FVec Ideal S5x4x7x40 .f32) (ix4 n k o d) = ext (fun d => I.ow n o d) (40 * k.val + d.val)

variable {V c} {I : In} (h : Entry V c I) (t : Fin cfg1.N)
include h

/-- The block of the decays. -/
theorem b_r (l : Fin 200) (d : Fin 40) (b : Fin 128) : X0 c V t (ix4 0 l d b) = ext (fun d => Ideal.exp (-(deltaK I (nOf t) (bOf t b) l d))) (40 * (t.val % 4) + d.val) := by
  refine Eq.trans (b := (V c main_call0_v25 : FVec Ideal S5x200x160x512 .f32) (ix4 (nOf t) l (dOf t d) (bOf t b))) ?_ (h.r (nOf t) l (dOf t d) (bOf t b))
  unfold X0
  blk_ext [iblk1, idx t, nOf, bOf, dOf]

/-- The block of the scaled inputs. -/
theorem b_dx (l : Fin 200) (d : Fin 40) (b : Fin 128) : X1 c V t (ix4 0 l d b) = ext (fun d => deltaK I (nOf t) (bOf t b) l d * xi I (nOf t) (bOf t b) l d) (40 * (t.val % 4) + d.val) := by
  refine Eq.trans (b := (V c main_call0_v27 : FVec Ideal S5x200x160x512 .f32) (ix4 (nOf t) l (dOf t d) (bOf t b))) ?_ (h.dx (nOf t) l (dOf t d) (bOf t b))
  unfold X1
  blk_ext [iblk1, idx t, nOf, bOf, dOf]

/-- The block of the weighted inputs. -/
theorem b_wx (l : Fin 200) (d : Fin 40) (b : Fin 128) : X2 c V t (ix4 0 l d b) = ext (fun d => I.dp (nOf t) d * xi I (nOf t) (bOf t b) l d) (40 * (t.val % 4) + d.val) := by
  refine Eq.trans (b := (V c main_call0_v29 : FVec Ideal S5x200x160x512 .f32) (ix4 (nOf t) l (dOf t d) (bOf t b))) ?_ (h.wx (nOf t) l (dOf t d) (bOf t b))
  unfold X2
  blk_ext [iblk1, idx t, nOf, bOf, dOf]

/-- The block of the gates. -/
theorem b_z (l : Fin 200) (d : Fin 40) (b : Fin 128) : X3 c V t (ix4 0 l d b) = ext (fun d => zs I (nOf t) (bOf t b) l d) (40 * (t.val % 4) + d.val) := by
  refine Eq.trans (b := (V c main_call0_v31 : FVec Ideal S5x200x160x512 .f32) (ix4 (nOf t) l (dOf t d) (bOf t b))) ?_ (h.z (nOf t) l (dOf t d) (bOf t b))
  unfold X3
  blk_ext [iblk1, idx t, nOf, bOf, dOf]

/-- The block of the input matrix. -/
theorem b_bm (l : Fin 200) (s : Fin 32) (b : Fin 128) : X4 c V t (ix4 0 l s b) = bm I (nOf t) (bOf t b) l s := by
  refine Eq.trans (b := (V c main_call0_v32 : FVec Ideal S5x200x32x512 .f32) (ix4 (nOf t) l s (bOf t b))) ?_ (h.bm (nOf t) l s (bOf t b))
  unfold X4
  blk_ext [iblk1, idx t, nOf, bOf]

/-- The block of the output matrix. -/
theorem b_cm (l : Fin 200) (s : Fin 32) (b : Fin 128) : X5 c V t (ix4 0 l s b) = cm I (nOf t) (bOf t b) l s := by
  refine Eq.trans (b := (V c main_call0_v33 : FVec Ideal S5x200x32x512 .f32) (ix4 (nOf t) l s (bOf t b))) ?_ (h.cm (nOf t) l s (bOf t b))
  unfold X5
  blk_ext [iblk1, idx t, nOf, bOf]

/-- The block of the projection. -/
theorem b_ow (o : Fin 7) (d : Fin 40) : X6 c V t (ix4 0 0 o d) = ext (fun d => I.ow (nOf t) o d) (40 * (t.val % 4) + d.val) := by
  refine Eq.trans (b := (V c main_call0_v36 : FVec Ideal S5x4x7x40 .f32) (ix4 (nOf t) (kOf t) o d)) ?_ (h.ow (nOf t) (kOf t) o d)
  unfold X6
  blk_ext [iblk1, idx t, nOf, kOf]

/-- A channel of a grid point's block runs the layer's scan, or is padding. -/
theorem channel (l : Fin 200) (d : Fin 40) (b : Fin 128) :
    yK (fun u => row40 (X0 c V t) u (ix2 d b)) (fun u => row40 (X1 c V t) u (ix2 d b)) (fun u => row40 (X2 c V t) u (ix2 d b)) (fun u => row40 (X3 c V t) u (ix2 d b))
      (fun u s => row32 (X4 c V t) u (ix2 ⟨s % 32, Nat.mod_lt _ (by decide)⟩ b)) (fun u s => row32 (X5 c V t) u (ix2 ⟨s % 32, Nat.mod_lt _ (by decide)⟩ b)) l.val
      = ext (fun d => ygK I (nOf t) (bOf t b) l d) (40 * (t.val % 4) + d.val) := by
  have hm : ∀ (u : ℕ) (hu : u ≤ l.val), (⟨u % 200, Nat.mod_lt _ (by decide)⟩ : Fin 200) = ⟨u, lt_of_le_of_lt hu l.isLt⟩ :=
    fun u hu => Fin.ext (Nat.mod_eq_of_lt (lt_of_le_of_lt hu l.isLt))
  by_cases hd : 40 * (t.val % 4) + d.val < 140
  · rw [ext_of_lt _ _ hd]
    unfold ygK
    refine yK_congr l.val (fun u hu => ?_) (fun u hu => ?_) ?_ ?_ (fun u hu s hs => ?_) (fun s hs => ?_)
    · refine (b_r h t _ d b).trans ?_
      rw [ext_of_lt _ _ hd, ext_of_lt _ _ (show u < 200 by omega), hm u hu]
    · refine (b_dx h t _ d b).trans ?_
      rw [ext_of_lt _ _ hd, ext_of_lt _ _ (show u < 200 by omega), hm u hu]
    · refine (b_wx h t _ d b).trans ?_
      rw [ext_of_lt _ _ hd, ext_of_lt _ _ l.isLt, hm l.val le_rfl]
    · refine (b_z h t _ d b).trans ?_
      rw [ext_of_lt _ _ hd, ext_of_lt _ _ l.isLt, hm l.val le_rfl]
    · refine (b_bm h t _ _ b).trans ?_
      beta_reduce
      rw [ext_of_lt _ _ (show u < 200 by omega), ext_of_lt _ _ hs, hm u hu]
      exact congrArg _ (Fin.ext (Nat.mod_eq_of_lt hs))
    · refine (b_cm h t _ _ b).trans ?_
      beta_reduce
      rw [ext_of_lt _ _ l.isLt, ext_of_lt _ _ hs, hm l.val le_rfl]
      exact congrArg _ (Fin.ext (Nat.mod_eq_of_lt hs))
  · have e : row40 (X3 c V t) l.val (ix2 d b) = 0 := (b_z h t _ d b).trans (dif_neg hd)
    unfold yK
    refine (congrArg (fun q => _ * q) e).trans ((mul_zero _).trans (Eq.symm ?_))
    exact dif_neg hd

/-- What a grid point adds: its group's part of the projection. -/
theorem conAt_eq (l : Fin 200) (o : Fin 7) (b : Fin 128) : conAt c V t l ⟨o.val, by omega⟩ b
    = ∑ d : Fin 40, ext (fun d => I.ow (nOf t) o d) (40 * (t.val % 4) + d.val) * ext (fun d => ygK I (nOf t) (bOf t b) l d) (40 * (t.val % 4) + d.val) := by
  refine (dif_pos o.isLt).trans ((opAt_at _ _ _ _ _ _ _ l.val o b).trans (Finset.sum_congr rfl fun d _ => congrArg₂ (· * ·) (b_ow h t o d) (channel h t l d b)))

/-- The output block of a run's last point: the projection, and zero in the row beyond it. -/
theorem block_eq (h3 : t.val % 4 = 3) (l : Fin 200) (o : Fin 8) (b : Fin 128) :
    (outsAt1 V c t.val t.isLt).1 (ix4 0 l o b) = ext (fun o => opK I (nOf t) (bOf t b) l o) o.val := by
  have ht : t.val < 80 := t.isLt
  have hc : ∀ t : Fin cfg1.N, (if hm : t.val < 80 then conAt c V ⟨t.val, hm⟩ l o b else 0) = conAt c V t l o b := fun t => dif_pos t.isLt
  refine (Pipeline.eq_sum_of_reset_step_of_mod (N := 80) (fun n hn => (outsAt1 V c n hn).1 (ix4 0 l o b)) 4 0
    (fun m => if hm : m < 80 then conAt c V ⟨m, hm⟩ l o b else 0)
    (fun t h0 => ((first c V t h0 l o b).trans (congrArg (0 + ·) (hc t).symm)))
    (fun t h0 => ((later c V t h0 l o b).trans (congrArg (_ + ·) (hc t).symm))) t h3).trans ?_
  rw [zero_add, Finset.sum_range]
  by_cases ho : o.val < 7
  · rw [ext_of_lt _ _ ho]
    unfold opK
    rw [← sum_groups (fun d => I.ow (nOf t) ⟨o.val, ho⟩ d) (fun d => ygK I (nOf t) (bOf t b) l d)]
    refine Finset.sum_congr rfl fun k _ => ?_
    have hk : k.val < 4 := k.isLt
    have hlt : 4 * (t.val / 4) + k.val < 80 := by omega
    refine (dif_pos hlt).trans ((conAt_eq h ⟨4 * (t.val / 4) + k.val, hlt⟩ l ⟨o.val, ho⟩ b).trans ?_)
    have e1 : nOf ⟨4 * (t.val / 4) + k.val, hlt⟩ = nOf t := Fin.ext (show (4 * (t.val / 4) + k.val) / 16 = t.val / 16 by omega)
    have e2 : bOf ⟨4 * (t.val / 4) + k.val, hlt⟩ b = bOf t b := Fin.ext (show 128 * ((4 * (t.val / 4) + k.val) / 4 % 4) + b.val = 128 * (t.val / 4 % 4) + b.val by omega)
    have e3 : (4 * (t.val / 4) + k.val) % 4 = k.val := by omega
    rw [e1, e2, e3]
  · refine (Finset.sum_eq_zero fun k _ => ?_).trans (Eq.symm ?_)
    swap
    · exact dif_neg ho
    have hk : k.val < 4 := k.isLt
    refine (dif_pos (show 4 * (t.val / 4) + k.val < 80 by omega)).trans ?_
    exact dif_neg ho

omit h in
/-- Where an element of the output's block lies in its array. -/
theorem emb7 (z : Fin 1) (l : Fin 200) (o : Fin 8) (b : Fin 128) :
    ((cfg1.win 7).blk t).view.emb (ix4 z l o b) = (ix4 (nOf t) l o (bOf t b) : (⟨4, ![5, 200, 8, 512]⟩ : Shape).Idx) := by
  blk_ext [idx t, nOf, bOf]

/-- The projected outputs' array after the call. -/
theorem out7 : (dat1 V c).arrAt 7 cfg1.N = (fun j : S5x200x8x512.Idx => ext (fun o => opK I (j 0) (j 3) (j 1) o) (j 2).val) := by
  refine (dat1 V c).arrAt_eq_of_covers 7 _ (by decide +kernel) fun t hf y => ?_
  obtain ⟨z, l, o, b, rfl⟩ : ∃ (z : Fin 1) (l : Fin 200) (o : Fin 8) (b : Fin 128), y = ix4 z l o b := ⟨y 0, y 1, y 2, y 3, eq_ix4 y⟩
  obtain rfl : z = 0 := Subsingleton.elim _ _
  refine Eq.trans ?_ (congrArg (fun j : S5x200x8x512.Idx => ext (fun o => opK I (j 0) (j 3) (j 1) o) (j 2).val) (emb7 t 0 l o b)).symm
  blk_simp
  rw [after1_7]
  exact block_eq h t ((flush1_7 t).mp hf) l o b

omit h in
/-- The statistics' parts lie in the array at their branch and batch block. -/
theorem emb8 (z z' : Fin 1) (s : Fin 2) (o : Fin 8) (b : Fin 128) :
    ((cfg1.win 8).blk t).view.emb (ix5 z z' s o b) = (ix5 (nOf t) (⟨t.val / 4 % 4, by omega⟩ : Fin 4) s o b : (⟨5, ![5, 4, 2, 8, 128]⟩ : Shape).Idx) := by
  blk_ext [idx t, nOf]

/-- The statistics' array after the call: sums over time, and of squares. -/
def statAt (I : In) (n : Fin 5) (j : Fin 4) (s : Fin 2) (o : Fin 8) (b : Fin 128) : EReal :=
  if s.val = 0 then ∑ l : Fin 200, ext (fun o => opK I n (lane j b) l o) o.val
  else ∑ l : Fin 200, ext (fun o => opK I n (lane j b) l o) o.val * ext (fun o => opK I n (lane j b) l o) o.val

/-- The statistics' array after the call. -/
theorem out8 : (dat1 V c).arrAt 8 cfg1.N = (fun j : S5x4x2x8x128.Idx => statAt I (j 0) (j 1) (j 2) (j 3) (j 4)) := by
  refine (dat1 V c).arrAt_eq_of_covers 8 _ (by decide +kernel) fun t hf y => ?_
  blk_simp
  rw [after1_8]
  obtain ⟨z, z', s, o, b, rfl⟩ : ∃ (z : Fin 1) (z' : Fin 1) (s : Fin 2) (o : Fin 8) (b : Fin 128), y = ix5 z z' s o b := ⟨y 0, y 1, y 2, y 3, y 4, eq_ix5 y⟩
  obtain rfl : z = 0 := Subsingleton.elim _ _
  obtain rfl : z' = 0 := Subsingleton.elim _ _
  refine Eq.trans ?_ (congrArg (fun j : S5x4x2x8x128.Idx => statAt I (j 0) (j 1) (j 2) (j 3) (j 4)) (emb8 t 0 0 s o b)).symm
  have h3 := (flush1_8 t).mp hf
  have e := stats c V t h3 o b
  have q : ∀ l : Fin 200, (outsAt1 V c t.val t.isLt).1 (ix4 0 l o b) = ext (fun o => opK I (nOf t) (lane (⟨t.val / 4 % 4, by omega⟩ : Fin 4) b) l o) o.val := fun l => block_eq h t h3 l o b
  simp only [q] at e
  fin_cases s
  · exact e.1
  · exact e.2

end Cert.KernelIdeal.Scan
end
-- ==== Proof.Host1.lean ====
/- What the second call finds: the first call's arrays with the channels padded, lanes last; the output projection in groups. -/
module

public import proofs.«01_k».proof.Proof.Region1Out
public import Idealize.ShloMosaic.Lib.StableHlo.ReadAt

@[expose] public section

set_option maxRecDepth 16384

noncomputable section

namespace Cert.KernelIdeal.Host1

open Idealize.ShloMosaic Idealize.ShloMosaic.TcCoe Idealize.ShloMosaic.Tactic Cert.KernelIdeal Cert.KernelIdeal.Gen Cert.Spec
open Idealize.SL Idealize.SL.Sem

/-- The padding's value. -/
theorem zero_word : (FloatOps.sitofp .f32 (0#32 : BitVec 32) : Ideal .f32) = (0 : EReal) := by
  show ((((0#32 : BitVec 32).toInt : ℝ)) : EReal) = 0
  simp

variable (W : Valuation τ sig (Elt Ideal))

/-- The decays, padded with zero channels. -/
theorem pad0 (n : Fin 5) (l : Fin 200) (d : Fin 160) (b : Fin 512) : (StableHlo.after hostOps1 W main_call0_v25 : FVec Ideal S5x200x160x512 .f32) (ix4 n l d b)
    = ext (fun d => (W main_call0_v23_0 : FVec Ideal S5x200x512x140 .f32) (ix4 n l b d)) d.val := by
  unfold ext
  after_reads_at
  rw [zero_word]

/-- The scaled inputs, padded with zero channels. -/
theorem pad1 (n : Fin 5) (l : Fin 200) (d : Fin 160) (b : Fin 512) : (StableHlo.after hostOps1 W main_call0_v27 : FVec Ideal S5x200x160x512 .f32) (ix4 n l d b)
    = ext (fun d => (W main_call0_v23_1 : FVec Ideal S5x200x512x140 .f32) (ix4 n l b d)) d.val := by
  unfold ext
  after_reads_at
  rw [zero_word]

/-- The weighted inputs, padded with zero channels. -/
theorem pad2 (n : Fin 5) (l : Fin 200) (d : Fin 160) (b : Fin 512) : (StableHlo.after hostOps1 W main_call0_v29 : FVec Ideal S5x200x160x512 .f32) (ix4 n l d b)
    = ext (fun d => (W main_call0_v23_2 : FVec Ideal S5x200x512x140 .f32) (ix4 n l b d)) d.val := by
  unfold ext
  after_reads_at
  rw [zero_word]

/-- The gates, padded with zero channels. -/
theorem pad3 (n : Fin 5) (l : Fin 200) (d : Fin 160) (b : Fin 512) : (StableHlo.after hostOps1 W main_call0_v31 : FVec Ideal S5x200x160x512 .f32) (ix4 n l d b)
    = ext (fun d => (W main_call0_v23_3 : FVec Ideal S5x200x512x140 .f32) (ix4 n l b d)) d.val := by
  unfold ext
  after_reads_at
  rw [zero_word]

/-- The input matrix, lanes last. -/
theorem mat0 (n : Fin 5) (l : Fin 200) (s : Fin 32) (b : Fin 512) : (StableHlo.after hostOps1 W main_call0_v32 : FVec Ideal S5x200x32x512 .f32) (ix4 n l s b)
    = (W main_call0_v23_4 : FVec Ideal S5x200x512x32 .f32) (ix4 n l b s) := by
  after_reads_at

/-- The output matrix, lanes last. -/
theorem mat1 (n : Fin 5) (l : Fin 200) (s : Fin 32) (b : Fin 512) : (StableHlo.after hostOps1 W main_call0_v33 : FVec Ideal S5x200x32x512 .f32) (ix4 n l s b)
    = (W main_call0_v23_5 : FVec Ideal S5x200x512x32 .f32) (ix4 n l b s) := by
  after_reads_at

/-- The output projection in four groups of channels. -/
theorem ow (n : Fin 5) (k : Fin 4) (o : Fin 7) (d : Fin 40) : (StableHlo.after hostOps1 W main_call0_v36 : FVec Ideal S5x4x7x40 .f32) (ix4 n k o d)
    = ext (fun d => (W main_arg9 : FVec Ideal S5x7x140 .f32) (ix3 n o d)) (40 * k.val + d.val) := by
  rw [Nat.mul_comm 40]
  unfold ext
  after_reads_at
  rw [zero_word]

end Cert.KernelIdeal.Host1
end
-- ==== Proof.Host2.lean ====
/- What the third call finds: the projected outputs, channels last, and the batch normalisation as a scale and a shift. -/
module

public import proofs.«01_k».proof.Proof.Region1Out
public import proofs.«01_k».proof.Proof.Reduce13
public import Idealize.ShloMosaic.Lib.StableHlo.ReadAt

@[expose] public section

set_option maxRecDepth 16384

noncomputable section

namespace Cert.KernelIdeal.Host2

open Idealize.ShloMosaic Idealize.ShloMosaic.TcCoe Idealize.ShloMosaic.Tactic Cert.KernelIdeal Cert.KernelIdeal.Gen Cert.Spec
open Idealize.SL Idealize.SL.Sem

variable (W : Valuation τ sig (Elt Ideal))

/-- The projected outputs, channels last, without the empty row. -/
theorem q (n : Fin 5) (l : Fin 200) (b : Fin 512) (o : Fin 7) : (StableHlo.after hostOps2 W main_call0_v57 : FVec Ideal S5x200x512x7 .f32) (ix4 n l b o)
    = (W main_call0_v37_0 : FVec Ideal S5x200x8x512 .f32) (ix4 n l ⟨o.val, by omega⟩ b) := by
  after_reads_at

/-- The circular convolution's taps. -/
theorem wk (n : Fin 5) (k : Fin 3) (i o : Fin 7) : (StableHlo.after hostOps2 W main_call0_v58 : FVec Ideal S5x3x7x7 .f32) (ix4 n k i o)
    = (W main_arg12 : FVec Ideal S5x7x7x3 .f32) (ix4 n o i k) := by
  after_reads_at

/-- The circular convolution's bias. -/
theorem cb (n : Fin 5) (o : Fin 7) : (StableHlo.after hostOps2 W main_call0_v61 : FVec Ideal S5x1x7 .f32) (ix3 n 0 o)
    = (W main_arg13 : FVec Ideal S5x7 .f32) (ix2 n o) := by
  after_reads_at

variable (I : In) (hs : ∀ (n : Fin 5) (j : Fin 4) (s : Fin 2) (o : Fin 8) (b : Fin 128), (W main_call0_v37_1 : FVec Ideal S5x4x2x8x128 .f32) (ix5 n j s o b) = Scan.statAt I n j s o b)
  (hg : ∀ (n : Fin 5) (o : Fin 7), (W main_arg10 : FVec Ideal S5x7 .f32) (ix2 n o) = I.g n o) (hb : ∀ (n : Fin 5) (o : Fin 7), (W main_arg11 : FVec Ideal S5x7 .f32) (ix2 n o) = I.be n o)

/-- A channel's part of the sums. -/
theorem stat_zero (n : Fin 5) (j : Fin 4) (o : Fin 7) (b : Fin 128) : Scan.statAt I n j 0 ⟨o.val, by omega⟩ b = ∑ l : Fin 200, opK I n (lane j b) l o :=
  (if_pos rfl).trans (Finset.sum_congr rfl fun _ _ => ext_val _ o)

/-- A channel's part of the sums of squares. -/
theorem stat_one (n : Fin 5) (j : Fin 4) (o : Fin 7) (b : Fin 128) :
    Scan.statAt I n j 1 ⟨o.val, by omega⟩ b = ∑ l : Fin 200, opK I n (lane j b) l o * opK I n (lane j b) l o :=
  (if_neg (by decide)).trans (Finset.sum_congr rfl fun _ _ => congrArg₂ (· * ·) (ext_val _ o) (ext_val _ o))

/-- A row of the statistics' parts, without the empty row. -/
def part (s : Fin 2) : FVec Ideal S5x4x7x128 .f32 := fun i =>
  (W main_call0_v37_1 : FVec Ideal S5x4x2x8x128 .f32) (ix5 (i 0) (i 1) s ⟨(i 2).val, lt_trans (show (i 2).val < 7 from (i 2).isLt) (by decide)⟩ (i 3))

include hs

/-- The sums over the blocks and lanes. -/
theorem sum_zero (h : S5x4x7x128.ReducesTo [1, 3] S5x7) (n : Fin 5) (o : Fin 7) :
    Ideal.hostReduceAdd h (part W 0) 0 (ix2 n o) = ∑ j : Fin 4, ∑ b : Fin 128, ∑ l : Fin 200, opK I n (lane j b) l o := by
  refine (Reduce13.hostReduceAdd_at h (part W 0) 0 n o).trans ((zero_add _).trans ?_)
  exact Finset.sum_congr rfl fun j _ => Finset.sum_congr rfl fun b _ => (hs n j 0 ⟨o.val, by omega⟩ b).trans (stat_zero I n j o b)

/-- The sums of squares over the blocks and lanes. -/
theorem sum_one (h : S5x4x7x128.ReducesTo [1, 3] S5x7) (n : Fin 5) (o : Fin 7) :
    Ideal.hostReduceAdd h (part W 1) 0 (ix2 n o) = ∑ j : Fin 4, ∑ b : Fin 128, ∑ l : Fin 200, opK I n (lane j b) l o * opK I n (lane j b) l o := by
  refine (Reduce13.hostReduceAdd_at h (part W 1) 0 n o).trans ((zero_add _).trans ?_)
  exact Finset.sum_congr rfl fun j _ => Finset.sum_congr rfl fun b _ => (hs n j 1 ⟨o.val, by omega⟩ b).trans (stat_one I n j o b)

include hg

/-- The scale. -/
theorem scale (n : Fin 5) (o : Fin 7) : (StableHlo.after hostOps2 W main_call0_v59 : FVec Ideal S5x1x7 .f32) (ix3 n 0 o) = scaleK I n o := by
  unfold scaleK varK muK
  rw [← hg n o, ← sum_zero W I hs reducesTo_S5x4x7x128_S5x7_d1_3 n o, ← sum_one W I hs reducesTo_S5x4x7x128_S5x7_d1_3 n o]
  after_reads_at
  rfl

include hb

/-- The shift. -/
theorem shift (n : Fin 5) (o : Fin 7) : (StableHlo.after hostOps2 W main_call0_v60 : FVec Ideal S5x1x7 .f32) (ix3 n 0 o) = shiftK I n o := by
  unfold shiftK scaleK varK muK
  rw [← hb n o, ← hg n o, ← sum_zero W I hs reducesTo_S5x4x7x128_S5x7_d1_3 n o, ← sum_one W I hs reducesTo_S5x4x7x128_S5x7_d1_3 n o]
  after_reads_at
  rfl

end Cert.KernelIdeal.Host2
end
-- ==== Proof.Post.lean ====
/- The third call's body at an index: scale and shift, a circular convolution of three taps, and the unit. -/
module

public import proofs.«01_k».proof.Proof.PostSpec

@[expose] public section

set_option maxRecDepth 16384

noncomputable section

namespace Cert.KernelIdeal.Post

open Idealize.ShloMosaic Idealize.ShloMosaic.Tactic Cert.KernelIdeal Cert.KernelIdeal.Gen Cert.Spec

variable (I : In) (n : Fin 5) (T : Fin 64 → Fin 200 → Fin 7 → EReal) (x0 : Vec Ideal S1x200x64x7 .f32) (x1 x2 x4 : Vec Ideal S1x1x7 .f32) (w0 w1 w2 : Vec Ideal S1x1x7x7 .f32)
  (hT : ∀ (l : Fin 200) (b : Fin 64) (i : Fin 7), x0 (ix4 0 l b i) * x1 (ix3 0 0 i) + x2 (ix3 0 0 i) = T b l i)
  (hw0 : ∀ i o : Fin 7, w0 (ix4 0 0 i o) = I.cv n o i 0) (hw1 : ∀ i o : Fin 7, w1 (ix4 0 0 i o) = I.cv n o i 1) (hw2 : ∀ i o : Fin 7, w2 (ix4 0 0 i o) = I.cv n o i 2)
  (h4 : ∀ o : Fin 7, x4 (ix3 0 0 o) = I.cc n o)

include hT hw0 hw1 hw2

/-- The circular convolution before its bias. -/
theorem conv_at (l : Fin 200) (b : Fin 64) (o : Fin 7) :
    (k2_pay2 (F := Ideal) x0 x1 x2 w0 w1 w2 (ix3 l b o) : EReal) + I.cc n o = conv I (T b) n l o := by
  pointwise [k2_pay2]
  simp only [hT, hw0, hw1, hw2]
  unfold conv
  refine congrArg (· + I.cc n o) (congrArg₂ (· + ·) (congrArg (· + _) (Finset.sum_congr rfl fun i _ => congrArg (· * I.cv n o i 0) ?_))
    (Finset.sum_congr rfl fun i _ => congrArg (· * I.cv n o i 2) ?_))
  · by_cases h : l.val < 1
    · refine (dif_pos h).trans (congrArg (fun q => T b q i) (Fin.ext ?_))
      show 199 + l.val = (l.val + 199) % 200
      omega
    · refine (dif_neg h).trans (congrArg (fun q => T b q i) (Fin.ext ?_))
      show l.val - 1 = (l.val + 199) % 200
      omega
  · by_cases h : l.val < 199
    · refine (dif_pos h).trans (congrArg (fun q => T b q i) (Fin.ext ?_))
      show 1 + l.val = (l.val + 1) % 200
      omega
    · refine (dif_neg h).trans (congrArg (fun q => T b q i) (Fin.ext ?_))
      show l.val - 199 = (l.val + 1) % 200
      omega

include h4

/-- The unit of the convolution. -/
theorem out_at (l : Fin 200) (b : Fin 64) (o : Fin 7) :
    k2_pay1 (F := Ideal) (k2_pay2 x0 x1 x2 w0 w1 w2) x4 (ix4 0 l b o) = elu (conv I (T b) n l o) := by
  have e := conv_at I n T x0 x1 x2 w0 w1 w2 hT hw0 hw1 hw2 l b o
  generalize k2_pay2 (F := Ideal) x0 x1 x2 w0 w1 w2 = q at e ⊢
  pointwise [k2_pay1]
  rw [h4, e]
  rfl

end Cert.KernelIdeal.Post
end
-- ==== Proof.Region2.lean ====
/- The third call: the array it leaves, over the arrays it finds. -/
module

public import proofs.«01_k».proof.Proof.Post
public import proofs.«01_k».proof.Proof.Gen.KernelIdeal.Frame

@[expose] public section

set_option maxRecDepth 16384

noncomputable section

namespace Cert.KernelIdeal.Region2

open Idealize.ShloMosaic Idealize.ShloMosaic.TcCoe Idealize.ShloMosaic.Tactic Cert.KernelIdeal Cert.KernelIdeal.Gen Cert.Spec
open Idealize.SL Idealize.SL.Sem

/-- The block that window 0 takes at a grid point. -/
theorem idx0 : ∀ t : Fin cfg2.N, win2_0.index t = ![t.val / 8, 0, t.val % 8, 0] := (by decide +kernel : ∀ t : Fin grid2.N, _)

/-- The block that window 1 takes at a grid point. -/
theorem idx1 : ∀ t : Fin cfg2.N, win2_1.index t = ![t.val / 8, 0, 0] := (by decide +kernel : ∀ t : Fin grid2.N, _)

/-- The block that window 2 takes at a grid point. -/
theorem idx2 : ∀ t : Fin cfg2.N, win2_2.index t = ![t.val / 8, 0, 0] := (by decide +kernel : ∀ t : Fin grid2.N, _)

/-- The block that window 3 takes at a grid point. -/
theorem idx3 : ∀ t : Fin cfg2.N, win2_3.index t = ![t.val / 8, 0, 0, 0] := (by decide +kernel : ∀ t : Fin grid2.N, _)

/-- The block that window 4 takes at a grid point. -/
theorem idx4 : ∀ t : Fin cfg2.N, win2_4.index t = ![t.val / 8, 0, 0] := (by decide +kernel : ∀ t : Fin grid2.N, _)

/-- The block that window 5 takes at a grid point. -/
theorem idx5 : ∀ t : Fin cfg2.N, win2_5.index t = ![t.val / 8, 0, t.val % 8, 0] := (by decide +kernel : ∀ t : Fin grid2.N, _)

/-- The branch that a grid point works on. -/
def nOf (t : Fin cfg2.N) : Fin 5 := ⟨t.val / 8, by have h : t.val < 40 := t.isLt; omega⟩

/-- The batch row that a row of a grid point's block is. -/
def bOf (t : Fin cfg2.N) (b : Fin 64) : Fin 512 := ⟨64 * (t.val % 8) + b.val, by omega⟩

variable (V : (c : Dev nD) → (b : Ref sig .tc) → Buf (Elt Ideal) ((c : Thread nD τ).loc b)) (c : Dev nD)

/-- The arrays that the call finds. -/
structure Entry (I : In) : Prop where
  q (n : Fin 5) (l : Fin 200) (b : Fin 512) (o : Fin 7) : (V c main_call0_v57 : FVec Ideal S5x200x512x7 .f32) (ix4 n l b o) = opK I n b l o
  sc (n : Fin 5) (o : Fin 7) : (V c main_call0_v59 : FVec Ideal S5x1x7 .f32) (ix3 n 0 o) = scaleK I n o
  sh (n : Fin 5) (o : Fin 7) : (V c main_call0_v60 : FVec Ideal S5x1x7 .f32) (ix3 n 0 o) = shiftK I n o
  wk (n : Fin 5) (k : Fin 3) (i o : Fin 7) : (V c main_call0_v58 : FVec Ideal S5x3x7x7 .f32) (ix4 n k i o) = I.cv n o i k
  cb (n : Fin 5) (o : Fin 7) : (V c main_call0_v61 : FVec Ideal S5x1x7 .f32) (ix3 n 0 o) = I.cc n o

/-- The block of the projected outputs. -/
def B0 (t : Fin cfg2.N) : FVec Ideal S1x200x64x7 .f32 := iblk2 V c 0 t

/-- The block of the scale. -/
def B1 (t : Fin cfg2.N) : FVec Ideal S1x1x7 .f32 := iblk2 V c 1 t

/-- The block of the shift. -/
def B2 (t : Fin cfg2.N) : FVec Ideal S1x1x7 .f32 := iblk2 V c 2 t

/-- The block of the taps. -/
def B3 (t : Fin cfg2.N) : FVec Ideal S1x3x7x7 .f32 := iblk2 V c 3 t

/-- The block of the bias. -/
def B4 (t : Fin cfg2.N) : FVec Ideal S1x1x7 .f32 := iblk2 V c 4 t

variable {V c} {I : In} (h : Entry V c I) (t : Fin cfg2.N)
include h

/-- The projected outputs' block. -/
theorem b_q (l : Fin 200) (b : Fin 64) (o : Fin 7) : B0 V c t (ix4 0 l b o) = opK I (nOf t) (bOf t b) l o := by
  refine Eq.trans (b := (V c main_call0_v57 : FVec Ideal S5x200x512x7 .f32) (ix4 (nOf t) l (bOf t b) o)) ?_ (h.q (nOf t) l (bOf t b) o)
  unfold B0
  blk_ext [iblk2, idx0 t, nOf, bOf]

/-- The scale's block. -/
theorem b_sc (o : Fin 7) : B1 V c t (ix3 0 0 o) = scaleK I (nOf t) o := by
  refine Eq.trans (b := (V c main_call0_v59 : FVec Ideal S5x1x7 .f32) (ix3 (nOf t) 0 o)) ?_ (h.sc (nOf t) o)
  unfold B1
  blk_ext [iblk2, idx1 t, nOf]

/-- The shift's block. -/
theorem b_sh (o : Fin 7) : B2 V c t (ix3 0 0 o) = shiftK I (nOf t) o := by
  refine Eq.trans (b := (V c main_call0_v60 : FVec Ideal S5x1x7 .f32) (ix3 (nOf t) 0 o)) ?_ (h.sh (nOf t) o)
  unfold B2
  blk_ext [iblk2, idx2 t, nOf]

/-- The bias's block. -/
theorem b_cb (o : Fin 7) : B4 V c t (ix3 0 0 o) = I.cc (nOf t) o := by
  refine Eq.trans (b := (V c main_call0_v61 : FVec Ideal S5x1x7 .f32) (ix3 (nOf t) 0 o)) ?_ (h.cb (nOf t) o)
  unfold B4
  blk_ext [iblk2, idx4 t, nOf]

/-- The taps' block. -/
theorem b_wk (k : Fin 3) (i o : Fin 7) : B3 V c t (ix4 0 k i o) = I.cv (nOf t) o i k := by
  refine Eq.trans (b := (V c main_call0_v58 : FVec Ideal S5x3x7x7 .f32) (ix4 (nOf t) k i o)) ?_ (h.wk (nOf t) k i o)
  unfold B3
  blk_ext [iblk2, idx3 t, nOf]

/-- Tap 0, loaded. -/
theorem tap0 (i o : Fin 7) : (View.ld (Val := Elt Ideal) (e' := .f32) (B3 V c t) r2_2 : Vec Ideal S1x1x7x7 .f32) (ix4 0 0 i o) = I.cv (nOf t) o i 0 := by
  refine Eq.trans ?_ (b_wk h t 0 i o)
  refine congrArg (B3 V c t) ?_
  idx_ext

/-- Tap 1, loaded. -/
theorem tap1 (i o : Fin 7) : (View.ld (Val := Elt Ideal) (e' := .f32) (B3 V c t) r2_3 : Vec Ideal S1x1x7x7 .f32) (ix4 0 0 i o) = I.cv (nOf t) o i 1 := by
  refine Eq.trans ?_ (b_wk h t 1 i o)
  refine congrArg (B3 V c t) ?_
  idx_ext

/-- Tap 2, loaded. -/
theorem tap2 (i o : Fin 7) : (View.ld (Val := Elt Ideal) (e' := .f32) (B3 V c t) r2_4 : Vec Ideal S1x1x7x7 .f32) (ix4 0 0 i o) = I.cv (nOf t) o i 2 := by
  refine Eq.trans ?_ (b_wk h t 2 i o)
  refine congrArg (B3 V c t) ?_
  idx_ext

omit h in
/-- Where an element of the output's block lies in its array. -/
theorem emb5 (z : Fin 1) (l : Fin 200) (b : Fin 64) (o : Fin 7) :
    ((cfg2.win 5).blk t).view.emb (ix4 z l b o) = (ix4 (nOf t) l (bOf t b) o : (⟨4, ![5, 200, 512, 7]⟩ : Shape).Idx) := by
  blk_ext [idx5 t, nOf, bOf]

/-- The layer's array after the call. -/
theorem out5 : (dat2 V c).arrAt 5 cfg2.N = (fun j : S5x200x512x7.Idx => outK I (j 0) (j 2) (j 1) (j 3)) := by
  refine (dat2 V c).arrAt_eq_of_covers 5 _ (by decide +kernel) fun t hf y => ?_
  blk_simp
  rw [after2_5]
  frame_out
  obtain ⟨z, l, b, o, rfl⟩ : ∃ (z : Fin 1) (l : Fin 200) (b : Fin 64) (o : Fin 7), y = ix4 z l b o := ⟨y 0, y 1, y 2, y 3, eq_ix4 y⟩
  obtain rfl : z = 0 := Subsingleton.elim _ _
  refine Eq.trans ?_ ((Post.out_at I (nOf t) (fun b => bnK I (nOf t) (bOf t b)) (B0 V c t) (B1 V c t) (B2 V c t) (B4 V c t) (View.ld (Val := Elt Ideal) (e' := .f32) (B3 V c t) r2_2)
    (View.ld (Val := Elt Ideal) (e' := .f32) (B3 V c t) r2_3) (View.ld (Val := Elt Ideal) (e' := .f32) (B3 V c t) r2_4)
    (fun l b i => by rw [b_q h, b_sc h, b_sh h]; rfl) (tap0 h t) (tap1 h t) (tap2 h t) (b_cb h t) l b o).trans ?_)
  · rfl
  exact (congrArg (fun j : S5x200x512x7.Idx => outK I (j 0) (j 2) (j 1) (j 3)) (emb5 t 0 l b o)).symm

end Cert.KernelIdeal.Region2
end
-- ==== Proof.Value.lean ====
/- The kernel's result array, as the layer over the arguments. -/
module

public import proofs.«01_k».proof.Proof.Host0
public import proofs.«01_k».proof.Proof.Host1
public import proofs.«01_k».proof.Proof.Host2
public import proofs.«01_k».proof.Proof.Region2

@[expose] public section

set_option maxRecDepth 16384

noncomputable section

namespace Cert.KernelIdeal.Value

open Idealize.ShloMosaic Idealize.ShloMosaic.TcCoe Idealize.ShloMosaic.Tactic Cert.KernelIdeal Cert.KernelIdeal.Gen Cert.Spec
open Idealize.SL Idealize.SL.Sem

variable (m : (ℓ : Loc nD τ sig) → Buf (Elt Ideal) ℓ) (ρ : Dev nD → PrngReg)

/-- The arguments as the layer's inputs. -/
def args (c : Dev nD) : In := Host0.inputs (W0 m ρ c)

/-- What the first call finds. -/
theorem entry0 (c : Dev nD) : Region0.Entry (V1 m ρ) c (args m ρ c) := Host0.entry (W0 m ρ c) c (V1 m ρ) fun _ => rfl

/-- What the second call finds. -/
theorem entry1 (c : Dev nD) : Scan.Entry (V3 m ρ) c (args m ρ c) where
  r n l d b := (Host1.pad0 (W2 m ρ c) n l d b).trans
    (congrArg (fun q : FVec Ideal S5x200x512x140 .f32 => ext (fun d => q (ix4 n l b d)) d.val) ((W2_arr m ρ c 10).trans (Region0.out10 (entry0 m ρ c))))
  dx n l d b := (Host1.pad1 (W2 m ρ c) n l d b).trans
    (congrArg (fun q : FVec Ideal S5x200x512x140 .f32 => ext (fun d => q (ix4 n l b d)) d.val) ((W2_arr m ρ c 11).trans (Region0.out11 (entry0 m ρ c))))
  wx n l d b := (Host1.pad2 (W2 m ρ c) n l d b).trans
    (congrArg (fun q : FVec Ideal S5x200x512x140 .f32 => ext (fun d => q (ix4 n l b d)) d.val) ((W2_arr m ρ c 12).trans (Region0.out12 (entry0 m ρ c))))
  z n l d b := (Host1.pad3 (W2 m ρ c) n l d b).trans
    (congrArg (fun q : FVec Ideal S5x200x512x140 .f32 => ext (fun d => q (ix4 n l b d)) d.val) ((W2_arr m ρ c 13).trans (Region0.out13 (entry0 m ρ c))))
  bm n l s b := (Host1.mat0 (W2 m ρ c) n l s b).trans
    (congrArg (fun q : FVec Ideal S5x200x512x32 .f32 => q (ix4 n l b s)) ((W2_arr m ρ c 14).trans (Region0.out14 (entry0 m ρ c))))
  cm n l s b := (Host1.mat1 (W2 m ρ c) n l s b).trans
    (congrArg (fun q : FVec Ideal S5x200x512x32 .f32 => q (ix4 n l b s)) ((W2_arr m ρ c 15).trans (Region0.out15 (entry0 m ρ c))))
  ow n k o d := (Host1.ow (W2 m ρ c) n k o d).trans
    (congrArg (fun q : FVec Ideal S5x7x140 .f32 => ext (fun d => q (ix3 n o d)) (40 * k.val + d.val)) (W2_args m ρ c main_arg9 (by decide)))

/-- The statistics' array when the second call is done. -/
theorem stats (c : Dev nD) (n : Fin 5) (j : Fin 4) (s : Fin 2) (o : Fin 8) (b : Fin 128) :
    (W4 m ρ c main_call0_v37_1 : FVec Ideal S5x4x2x8x128 .f32) (ix5 n j s o b) = Scan.statAt (args m ρ c) n j s o b :=
  congrArg (fun q : FVec Ideal S5x4x2x8x128 .f32 => q (ix5 n j s o b)) ((W4_arr m ρ c 8).trans (Scan.out8 (entry1 m ρ c)))

/-- The scale's weights are as launched. -/
theorem gain (c : Dev nD) (n : Fin 5) (o : Fin 7) : (W4 m ρ c main_arg10 : FVec Ideal S5x7 .f32) (ix2 n o) = (args m ρ c).g n o :=
  congrArg (fun q : FVec Ideal S5x7 .f32 => q (ix2 n o)) (W4_args m ρ c main_arg10 (by decide))

/-- The shift's weights are as launched. -/
theorem bias (c : Dev nD) (n : Fin 5) (o : Fin 7) : (W4 m ρ c main_arg11 : FVec Ideal S5x7 .f32) (ix2 n o) = (args m ρ c).be n o :=
  congrArg (fun q : FVec Ideal S5x7 .f32 => q (ix2 n o)) (W4_args m ρ c main_arg11 (by decide))

/-- What the third call finds. -/
theorem entry2 (c : Dev nD) : Region2.Entry (V5 m ρ) c (args m ρ c) where
  q n l b o := (Host2.q (W4 m ρ c) n l b o).trans ((congrArg (fun q : FVec Ideal S5x200x8x512 .f32 => q (ix4 n l ⟨o.val, by omega⟩ b))
    ((W4_arr m ρ c 7).trans (Scan.out7 (entry1 m ρ c)))).trans (ext_val _ o))
  sc n o := Host2.scale (W4 m ρ c) (args m ρ c) (stats m ρ c) (gain m ρ c) n o
  sh n o := Host2.shift (W4 m ρ c) (args m ρ c) (stats m ρ c) (gain m ρ c) (bias m ρ c) n o
  wk n k i o := (Host2.wk (W4 m ρ c) n k i o).trans (congrArg (fun q : FVec Ideal S5x7x7x3 .f32 => q (ix4 n o i k)) (W4_args m ρ c main_arg12 (by decide)))
  cb n o := (Host2.cb (W4 m ρ c) n o).trans (congrArg (fun q : FVec Ideal S5x7 .f32 => q (ix2 n o)) (W4_args m ρ c main_arg13 (by decide)))

/-- The last transposition. -/
theorem last (W : Valuation τ sig (Elt Ideal)) (n : Fin 5) (b : Fin 512) (l : Fin 200) (o : Fin 7) :
    (StableHlo.after hostOps3 W main_v0 : FVec Ideal S5x512x200x7 .f32) (ix4 n b l o) = (W main_call0_v62 : FVec Ideal S5x200x512x7 .f32) (ix4 n l b o) := by
  after_reads_at

/-- The result at an index. -/
theorem result_at (c : Dev nD) (n : Fin 5) (b : Fin 512) (l : Fin 200) (o : Fin 7) :
    (W7 m ρ c main_v0 : FVec Ideal S5x512x200x7 .f32) (ix4 n b l o) = outK (args m ρ c) n b l o :=
  (last (W6 m ρ c) n b l o).trans (congrArg (fun q : FVec Ideal S5x200x512x7 .f32 => q (ix4 n l b o)) ((W6_arr m ρ c 5).trans (Region2.out5 (entry2 m ρ c))))

end Cert.KernelIdeal.Value
end
-- ==== Proof.Algebraic.lean ====
/- The value claim: on the layer's inputs the kernel and the reference end with the same array. -/
module

public import proofs.«01_k».proof.Proof.Frames
public import proofs.«01_k».proof.Proof.KRun
public import proofs.«01_k».proof.Proof.Norm
public import proofs.«01_k».proof.Proof.Pre
public import proofs.«01_k».proof.Proof.RefPost
public import proofs.«01_k».proof.Proof.Value

@[expose] public section

set_option maxRecDepth 16384

noncomputable section

namespace Cert.Algebraic

open Idealize.ShloMosaic Idealize.ShloMosaic.TcCoe Idealize.SL.Sem Cert.Spec

/-- The precondition, read: the arguments are real numbers, and the state matrix holds its logarithms. -/
theorem real [hPre : Cert.Pre_inputs.Facts] (m : (ℓ : Loc Cert.KernelIdeal.nD Cert.KernelIdeal.τ Cert.KernelIdeal.sig) → Buf (Elt Ideal) ℓ) (ρ : Dev Cert.KernelIdeal.nD → PrngReg)
    (hP : Cert.Pre_KernelIdeal_inputs m) (c : Dev Cert.KernelIdeal.nD) : RealVal.Real (Cert.KernelIdeal.Value.args m ρ c) where
  X b t k := Pre.finite _ _ (hP c).1 (ix3 b t k)
  W n e k := Pre.finite _ _ (hP c).2.1 (ix3 n e k)
  cw n d k := Pre.finite _ _ (hP c).2.2.1 (ix4 n d 0 k)
  cb n d := Pre.finite _ _ (hP c).2.2.2.1 (ix2 n d)
  xp n e d := Pre.finite _ _ (hP c).2.2.2.2.1 (ix3 n e d)
  dw n d := Pre.finite _ _ (hP c).2.2.2.2.2.1 (ix3 n d 0)
  db n d := Pre.finite _ _ (hP c).2.2.2.2.2.2.1 (ix2 n d)
  al n d s := Pre.logs _ _ (hP c).2.2.2.2.2.2.2.1 n d s
  dp n d := Pre.finite _ _ (hP c).2.2.2.2.2.2.2.2.1 (ix2 n d)
  ow n o d := Pre.finite _ _ (hP c).2.2.2.2.2.2.2.2.2.1 (ix3 n o d)
  g n o := Pre.finite _ _ (hP c).2.2.2.2.2.2.2.2.2.2 (ix2 n o)

section Reference

open Cert.ReferenceIdeal Cert.ReferenceIdeal.Step

variable (a0 : FVec Ideal S512x1000x7 .f32) (a1 : FVec Ideal S5x280x7 .f32) (a2 : FVec Ideal S5x140x1x3 .f32) (a3 : FVec Ideal S5x140 .f32) (a4 : FVec Ideal S5x65x140 .f32)
  (a5 : FVec Ideal S5x140x1 .f32) (a6 : FVec Ideal S5x140 .f32) (a7 : FVec Ideal S5x140x32 .f32) (a8 : FVec Ideal S5x140 .f32) (a9 : FVec Ideal S5x7x140 .f32)
  (a10 a11 : FVec Ideal S5x7 .f32) (a12 : FVec Ideal S5x7x7x3 .f32) (a13 : FVec Ideal S5x7 .f32)

/-- The reference's result after its 200 steps, an entry at a time. -/
theorem reference_at (it : ℕ → State Ideal) (h0 : it 0 = init (F := Ideal) a8 a0 a1 a2 a3 a4 a5 a6 a7) (hs : ∀ t, it (t + 1) = step t (it t))
    (h : RealVal.Real (Init.input a0 a1 a2 a3 a4 a5 a6 a7 a8 a9 a10 a11 a12 a13)) (n : Fin 5) (b : Fin 512) (l : Fin 200) (o : Fin 7) :
    R_main_v113 (F := Ideal) (it 200) a9 a10 a11 a12 a13 (ix4 n b l o) = out (Init.input a0 a1 a2 a3 a4 a5 a6 a7 a8 a9 a10 a11 a12 a13) n b l o :=
  Post.result_at _ (it 200).main_v56_9 a9 a10 a11 a12 a13
    (fun l n b d => Scan.ys_at a0 a1 a2 a3 a4 a5 a6 a7 a8 a9 a10 a11 a12 a13 it h0 hs (fun n b l d s => RealVal.decay_eq h n b l d s) l n b d 200 le_rfl l.isLt)
    (fun _ _ _ => rfl) (fun _ _ => rfl) (fun _ _ => rfl) (fun _ _ _ _ => rfl) (fun _ _ => rfl) (it 200) rfl n b l o

end Reference

/-- From memories whose arguments agree, the reference's result is the kernel's. -/
theorem results [hPre : Cert.Pre_inputs.Facts] (m : (ℓ : Loc Cert.KernelIdeal.nD Cert.KernelIdeal.τ Cert.KernelIdeal.sig) → Buf (Elt Ideal) ℓ) (ρ : Dev Cert.KernelIdeal.nD → PrngReg)
    (hP : Cert.Pre_KernelIdeal_inputs m) (c : Dev Cert.KernelIdeal.nD) (it : ℕ → Cert.ReferenceIdeal.Step.State Ideal)
    (h0 : it 0 = Cert.ReferenceIdeal.Step.init (F := Ideal) (m (c.tc.loc Cert.KernelIdeal.main_arg8)) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) (m (c.tc.loc Cert.KernelIdeal.main_arg5))
      (m (c.tc.loc Cert.KernelIdeal.main_arg6)) (m (c.tc.loc Cert.KernelIdeal.main_arg7)))
    (hs : ∀ t, it (t + 1) = Cert.ReferenceIdeal.Step.step t (it t)) :
    Cert.ReferenceIdeal.Step.R_main_v113 (F := Ideal) (it 200) (m (c.tc.loc Cert.KernelIdeal.main_arg9)) (m (c.tc.loc Cert.KernelIdeal.main_arg10)) (m (c.tc.loc Cert.KernelIdeal.main_arg11))
      (m (c.tc.loc Cert.KernelIdeal.main_arg12)) (m (c.tc.loc Cert.KernelIdeal.main_arg13)) = Cert.KernelIdeal.Gen.W7 m ρ c (Proc.devRef .tc Cert.KernelIdeal.main_v0) := by
  refine funext fun (j : Cert.ReferenceIdeal.S5x512x200x7.Idx) => ?_
  rw [eq_ix4 j]
  have h := real m ρ hP c
  exact (reference_at _ _ _ _ _ _ _ _ _ _ _ _ _ _ it h0 hs h _ _ _ _).trans
    ((RealVal.out_eq h _ _ _ _).symm.trans (Cert.KernelIdeal.Value.result_at m ρ c _ _ _ _).symm)

/-- On the layer's inputs the kernel and the reference end with the same array, and leave their arguments as they were. -/
theorem algebraic [hPre : Cert.Pre_inputs.Facts] : Cert.algebraic_KernelIdeal_ReferenceIdeal_pre_inputs := by
  intro m g m' g' hP hA
  refine ⟨fun c => Cert.KernelIdeal.Gen.W7 m g c (Proc.devRef .tc Cert.KernelIdeal.main_v0), Cert.KernelIdeal.Run.run m g, ?_⟩
  refine (θ_run _ _ _).mono ?_ (Cert.ReferenceIdeal.RefRun.run_iter m' g' (Frames.states m') (fun _ => rfl) fun _ _ => rfl)
  intro r hr c
  refine ⟨(hr c).1.trans ?_, (hr c).2⟩
  obtain ⟨e0, e1, e2, e3, e4, e5, e6, e7, e8, e9, e10, e11, e12, e13⟩ := hA c
  refine Eq.trans ?_ (results m g hP c (Frames.states m' c) ?_ fun _ => rfl)
  · rw [e9, e10, e11, e12, e13]
  · show Cert.ReferenceIdeal.RefRun.initState m' c = _
    unfold Cert.ReferenceIdeal.RefRun.initState
    rw [e0, e1, e2, e3, e4, e5, e6, e7, e8]

end Cert.Algebraic
end
-- ==== Proof.lean ====
/- The claim, put together from its parts. -/
module

public import proofs.«01_k».proof.Defs
public import proofs.«01_k».proof.Proof.Frames
public import proofs.«01_k».proof.Proof.Algebraic

@[expose] public section

noncomputable section

namespace Cert.Proof

open Idealize.ShloMosaic Idealize.SL.Sem

/-- The shape facts the precondition's program states. -/
theorem pre_facts : Cert.Pre_inputs.Facts := by
  constructor <;> decide

/-- Every run ends with its arguments unchanged, the idealized kernel is the kernel, and on the layer's inputs its result is the reference's. -/
theorem claim : Cert.Claim :=
  ⟨Cert.Kernel.Gen.facts, Cert.KernelIdeal.Gen.facts, Cert.ReferenceIdeal.Gen.facts, pre_facts,
    Cert.Frames.kernel, Cert.Frames.kernelIdeal, fun m g _ => Cert.Frames.kernelIdeal m g trivial,
    Cert.Frames.reference, fun m g _ => Cert.Frames.reference m g trivial, trivial,
    Cert.Algebraic.algebraic (hPre := pre_facts)⟩

end Cert.Proof

end
